-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S16384x3 : Shape := ⟨2, ![16384, 3]⟩
abbrev S100000x64 : Shape := ⟨2, ![100000, 64]⟩
abbrev S1000x64 : Shape := ⟨2, ![1000, 64]⟩
abbrev S192x512 : Shape := ⟨2, ![192, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : IVec S16384x3 32) (main_arg1 : FVec F S100000x64 .f32) (main_arg2 : FVec F S100000x64 .f32) (main_arg3 : FVec F S1000x64 .f32) (main_arg4 : FVec F S192x512 .f32) (main_arg5 : FVec F S512 .f32) (main_arg6 : FVec F S512x256 .f32) (main_arg7 : FVec F S256 .f32) (main_arg8 : FVec F S256x128 .f32) (main_arg9 : FVec F S128 .f32) (main_arg10 : FVec F S128x1 .f32) (main_arg11 : FVec F S1 .f32) : IVec S_ 1 :=
  let main_c : IVec S_ 32 := constantI S_ 32 0#32
  let main_v0 : IVec S16384x3 32 := broadcastInDim S16384x3 ![] bcast_S_S16384x3 main_c
  let main_v1 : IVec S16384x3 1 := cmpi .sge main_arg0 main_v0
  let main_c_0 : IVec S_ 32 := constantI S_ 32 1000#32
  let main_v2 : IVec S16384x3 32 := broadcastInDim S16384x3 ![] bcast_S_S16384x3 main_c_0
  let main_v3 : IVec S16384x3 1 := cmpi .slt main_arg0 main_v2
  let main_v4 : IVec S16384x3 1 := andi main_v1 main_v3
  let main_c_1 : IVec S_ 1 := constantI S_ 1 1#1
  let main_v5 : IVec S_ 1 := (fun x v => Host.reduce IntOp.andi x v reducesTo_S16384x3_S_d0_1 h_S_) main_v4 main_c_1
  main_v5
-- ==== Kernel.lean ====
abbrev S16384x3 : Shape := ⟨2, ![16384, 3]⟩
abbrev S100000x64 : Shape := ⟨2, ![100000, 64]⟩
abbrev S1000x64 : Shape := ⟨2, ![1000, 64]⟩
abbrev S192x512 : Shape := ⟨2, ![192, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S3x16384 : Shape := ⟨2, ![3, 16384]⟩
abbrev S1x16384 : Shape := ⟨2, ![1, 16384]⟩
abbrev S16384 : Shape := ⟨1, ![16384]⟩
abbrev S128x128 : Shape := ⟨2, ![128, 128]⟩
abbrev S1024x64 : Shape := ⟨2, ![1024, 64]⟩
abbrev S_ : Shape := ⟨0, ![]⟩
abbrev S1024x128 : Shape := ⟨2, ![1024, 128]⟩
abbrev S1000x128 : Shape := ⟨2, ![1000, 128]⟩
abbrev S16384x128 : Shape := ⟨2, ![16384, 128]⟩
abbrev S4x128 : Shape := ⟨2, ![4, 128]⟩
abbrev S512x128 : Shape := ⟨2, ![512, 128]⟩
abbrev S1x128 : Shape := ⟨2, ![1, 128]⟩
abbrev S64x512 : Shape := ⟨2, ![64, 512]⟩
abbrev S1x512 : Shape := ⟨2, ![1, 512]⟩
abbrev S1x256 : Shape := ⟨2, ![1, 256]⟩
abbrev S1x1 : Shape := ⟨2, ![1, 1]⟩
abbrev S16384x1 : Shape := ⟨2, ![16384, 1]⟩
abbrev S2048x128 : Shape := ⟨2, ![2048, 128]⟩
abbrev S2048x1 : Shape := ⟨2, ![2048, 1]⟩
abbrev S2048x64 : Shape := ⟨2, ![2048, 64]⟩
abbrev S2048x512 : Shape := ⟨2, ![2048, 512]⟩
abbrev S2048x256 : Shape := ⟨2, ![2048, 256]⟩
abbrev S2048 : Shape := ⟨1, ![2048]⟩

abbrev nBuf : Table → Nat
  | .hbm => 45
  | .local .tc .vmem => 18
  | .local .scVector .vmem => 4
  | _ => 0

abbrev bufTy : (tb : Table) → Fin (nBuf tb) → BufTy
  | .hbm, ⟨0, _⟩ => ⟨S16384x3, .i32⟩
  | .hbm, ⟨1, _⟩ => ⟨S100000x64, .f32⟩
  | .hbm, ⟨2, _⟩ => ⟨S100000x64, .f32⟩
  | .hbm, ⟨3, _⟩ => ⟨S1000x64, .f32⟩
  | .hbm, ⟨4, _⟩ => ⟨S192x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S3x16384, .i32⟩
  | .hbm, ⟨13, _⟩ => ⟨S1x16384, .i32⟩
  | .hbm, ⟨14, _⟩ => ⟨S16384, .i32⟩
  | .hbm, ⟨15, _⟩ => ⟨S128x128, .i32⟩
  | .hbm, ⟨16, _⟩ => ⟨S1x16384, .i32⟩
  | .hbm, ⟨17, _⟩ => ⟨S16384, .i32⟩
  | .hbm, ⟨18, _⟩ => ⟨S128x128, .i32⟩
  | .hbm, ⟨19, _⟩ => ⟨S1x16384, .i32⟩
  | .hbm, ⟨20, _⟩ => ⟨S16384, .i32⟩
  | .hbm, ⟨21, _⟩ => ⟨S128x128, .i32⟩
  | .hbm, ⟨22, _⟩ => ⟨S1024x64, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x64, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S_, .i32⟩
  | .hbm, ⟨31, _⟩ => ⟨S_, .f32⟩
  | .hbm, ⟨32, _⟩ => ⟨S1000x128, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S64x512, .f32⟩
  | .hbm, ⟨37, _⟩ => ⟨S64x512, .f32⟩
  | .hbm, ⟨38, _⟩ => ⟨S64x512, .f32⟩
  | .hbm, ⟨39, _⟩ => ⟨S1x512, .f32⟩
  | .hbm, ⟨40, _⟩ => ⟨S1x256, .f32⟩
  | .hbm, ⟨41, _⟩ => ⟨S1x128, .f32⟩
  | .hbm, ⟨42, _⟩ => ⟨S1x128, .f32⟩
  | .hbm, ⟨43, _⟩ => ⟨S1x1, .f32⟩
  | .hbm, ⟨44, _⟩ => ⟨S16384x1, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S64x512, .f32⟩
  | .local .tc .vmem, ⟨7, _⟩ => ⟨S64x512, .f32⟩
  | .local .tc .vmem, ⟨8, _⟩ => ⟨S64x512, .f32⟩
  | .local .tc .vmem, ⟨9, _⟩ => ⟨S1x512, .f32⟩
  | .local .tc .vmem, ⟨10, _⟩ => ⟨S512x256, .f32⟩
  | .local .tc .vmem, ⟨11, _⟩ => ⟨S1x256, .f32⟩
  | .local .tc .vmem, ⟨12, _⟩ => ⟨S256x128, .f32⟩
  | .local .tc .vmem, ⟨13, _⟩ => ⟨S1x128, .f32⟩
  | .local .tc .vmem, ⟨14, _⟩ => ⟨S1x128, .f32⟩
  | .local .tc .vmem, ⟨15, _⟩ => ⟨S1x1, .f32⟩
  | .local .tc .vmem, ⟨16, _⟩ => ⟨S2048x1, .f32⟩
  | .local .tc .vmem, ⟨17, _⟩ => ⟨S2048x1, .f32⟩
  | .local .scVector .vmem, ⟨0, _⟩ => ⟨S4x128, .i32⟩
  | .local .scVector .vmem, ⟨1, _⟩ => ⟨S4x128, .i32⟩
  | .local .scVector .vmem, ⟨2, _⟩ => ⟨S4x128, .i32⟩
  | .local .scVector .vmem, ⟨3, _⟩ => ⟨S512x128, .f32⟩
  | _, _ => ⟨S16384x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_call1_v0 : Ref sig .tc := ⟨.hbm, 28, rfl⟩
abbrev main_v13 : Ref sig .tc := ⟨.hbm, 29, rfl⟩
abbrev main_c_1 : Ref sig .tc := ⟨.hbm, 30, rfl⟩
abbrev main_call2_v0 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v3_scv : Ref sig .scVector := ⟨.hbm, 15, rfl⟩
abbrev main_v6_scv : Ref sig .scVector := ⟨.hbm, 18, rfl⟩
abbrev main_v9_scv : Ref sig .scVector := ⟨.hbm, 21, rfl⟩
abbrev main_v11_scv : Ref sig .scVector := ⟨.hbm, 25, rfl⟩
abbrev main_v13_scv : Ref sig .scVector := ⟨.hbm, 29, rfl⟩
abbrev main_v14_scv : Ref sig .scVector := ⟨.hbm, 32, rfl⟩
abbrev main_v15_0_scv : Ref sig .scVector := ⟨.hbm, 33, rfl⟩
abbrev main_v15_1_scv : Ref sig .scVector := ⟨.hbm, 34, rfl⟩
abbrev main_v15_2_scv : Ref sig .scVector := ⟨.hbm, 35, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg13_1 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_138_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_138_r3 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2048x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x3 : Shape := ⟨2, ![16384, 3]⟩
abbrev S100000x64 : Shape := ⟨2, ![100000, 64]⟩
abbrev S1000x64 : Shape := ⟨2, ![1000, 64]⟩
abbrev S192x512 : Shape := ⟨2, ![192, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x64 : Shape := ⟨2, ![16384, 64]⟩
abbrev S16384x192 : Shape := ⟨2, ![16384, 192]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S16384x3, .i32⟩
  | .hbm, ⟨1, _⟩ => ⟨S100000x64, .f32⟩
  | .hbm, ⟨2, _⟩ => ⟨S100000x64, .f32⟩
  | .hbm, ⟨3, _⟩ => ⟨S1000x64, .f32⟩
  | .hbm, ⟨4, _⟩ => ⟨S192x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S16384x1, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1, .i32⟩
  | .hbm, ⟨23, _⟩ => ⟨S_, .i32⟩
  | .hbm, ⟨24, _⟩ => ⟨S16384x1, .i32⟩
  | .hbm, ⟨25, _⟩ => ⟨S16384x1, .i1⟩
  | .hbm, ⟨26, _⟩ => ⟨S1x1, .i32⟩
  | .hbm, ⟨27, _⟩ => ⟨S16384x1, .i32⟩
  | .hbm, ⟨28, _⟩ => ⟨S16384x1, .i1⟩
  | .hbm, ⟨29, _⟩ => ⟨S16384x1, .i1⟩
  | .hbm, ⟨30, _⟩ => ⟨S_, .i1⟩
  | .hbm, ⟨31, _⟩ => ⟨S16384, .i1⟩
  | .hbm, ⟨32, _⟩ => ⟨S16384x64, .f32⟩
  | .hbm, ⟨33, _⟩ => ⟨S16384x64, .i1⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S16384x1, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S1, .i32⟩
  | .hbm, ⟨48, _⟩ => ⟨S_, .i32⟩
  | .hbm, ⟨49, _⟩ => ⟨S16384x1, .i32⟩
  | .hbm, ⟨50, _⟩ => ⟨S16384x1, .i1⟩
  | .hbm, ⟨51, _⟩ => ⟨S1x1, .i32⟩
  | .hbm, ⟨52, _⟩ => ⟨S16384x1, .i32⟩
  | .hbm, ⟨53, _⟩ => ⟨S16384x1, .i1⟩
  | .hbm, ⟨54, _⟩ => ⟨S16384x1, .i1⟩
  | .hbm, ⟨55, _⟩ => ⟨S_, .i1⟩
  | .hbm, ⟨56, _⟩ => ⟨S16384, .i1⟩
  | .hbm, ⟨57, _⟩ => ⟨S16384x64, .f32⟩
  | .hbm, ⟨58, _⟩ => ⟨S16384x64, .i1⟩
  | .hbm, ⟨59, _⟩ => ⟨S_, .f32⟩
  | .hbm, ⟨60, _⟩ => ⟨S16384x64, .f32⟩
  | .hbm, ⟨61, _⟩ => ⟨S16384x64, .f32⟩
  | .hbm, ⟨62, _⟩ => ⟨S16384x1, .i32⟩
  | .hbm, ⟨63, _⟩ => ⟨S16384, .i32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S1, .i32⟩
  | .hbm, ⟨73, _⟩ => ⟨S_, .i32⟩
  | .hbm, ⟨74, _⟩ => ⟨S16384x1, .i32⟩
  | .hbm, ⟨75, _⟩ => ⟨S16384x1, .i1⟩
  | .hbm, ⟨76, _⟩ => ⟨S1x1, .i32⟩
  | .hbm, ⟨77, _⟩ => ⟨S16384x1, .i32⟩
  | .hbm, ⟨78, _⟩ => ⟨S16384x1, .i1⟩
  | .hbm, ⟨79, _⟩ => ⟨S16384x1, .i1⟩
  | .hbm, ⟨80, _⟩ => ⟨S_, .i1⟩
  | .hbm, ⟨81, _⟩ => ⟨S16384, .i1⟩
  | .hbm, ⟨82, _⟩ => ⟨S16384x64, .f32⟩
  | .hbm, ⟨83, _⟩ => ⟨S16384x64, .i1⟩
  | .hbm, ⟨84, _⟩ => ⟨S_, .f32⟩
  | .hbm, ⟨85, _⟩ => ⟨S16384x64, .f32⟩
  | .hbm, ⟨86, _⟩ => ⟨S16384x64, .f32⟩
  | .hbm, ⟨87, _⟩ => ⟨S16384x192, .f32⟩
  | .hbm, ⟨88, _⟩ => ⟨S16384x512, .f32⟩
  | .hbm, ⟨89, _⟩ => ⟨S1x512, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S16384x256, .f32⟩
  | .hbm, ⟨94, _⟩ => ⟨S1x256, .f32⟩
  | .hbm, ⟨95, _⟩ => ⟨S16384x256, .f32⟩
  | .hbm, ⟨96, _⟩ => ⟨S16384x256, .f32⟩
  | .hbm, ⟨97, _⟩ => ⟨S16384x256, .f32⟩
  | .hbm, ⟨98, _⟩ => ⟨S16384x128, .f32⟩
  | .hbm, ⟨99, _⟩ => ⟨S1x128, .f32⟩
  | .hbm, ⟨100, _⟩ => ⟨S16384x128, .f32⟩
  | .hbm, ⟨101, _⟩ => ⟨S16384x128, .f32⟩
  | .hbm, ⟨102, _⟩ => ⟨S16384x128, .f32⟩
  | .hbm, ⟨103, _⟩ => ⟨S16384x1, .f32⟩
  | .hbm, ⟨104, _⟩ => ⟨S1x1, .f32⟩
  | .hbm, ⟨105, _⟩ => ⟨S16384x1, .f32⟩
  | .hbm, ⟨106, _⟩ => ⟨S16384x1, .f32⟩
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v8 : Ref sig .tc := ⟨.hbm, 86, rfl⟩
abbrev main_v9 : Ref sig .tc := ⟨.hbm, 87, rfl⟩
abbrev main_v10 : Ref sig .tc := ⟨.hbm, 88, rfl⟩
abbrev main_v11 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩

abbrev nD : Nat := 1
abbrev τ : Topo := Topo.v7x

variable {F : FTy → Type} [FloatOps F]
-- ==== Proof.GatherBatch.lean ====
/-
  SEVERAL INDIRECT GATHERS OUTSTANDING ON ONE SEMAPHORE.

  A tile that starts several indirect gathers on one DMA semaphore and then waits once per gather cannot say, at a
  wait, WHICH of them has arrived: each row of each gather credits the semaphore on its own. What it can say is that
  once it has waited for the credit of every row of every gather, every row is there. So the rows of all the gathers
  are the transfers of ONE counted batch (`Transfers.Batch`): the batch has as many transfers as there are rows, each
  of one row's credit; starting a gather issues the next `o` transfers at once (`wp_gatherIssue`); a wait sized to a
  whole gather consumes `o` rows' credit.

  * `RowDone` is what one row's arrival hands back: the destination's row, written; the list's entry; a piece of the
    source's share.
  * `rowsDone_join` puts a gather's rows together: the destination written with the gather's payload, the source's
    share and the list's.
-/
module

public import Idealize.ShloMosaic.Lib.SparseCore.Stream
public import Idealize.ShloMosaic.Lib.Batch

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## The issue rights of a stretch of transfers -/

/-- The transfers from `j` on are the `o` transfers `j, …, j + o - 1` and those from `j + o` on. -/
theorem bigSep_pending_split {M : Type} [URA M] {n o j : ℕ} (hj : j + o ≤ n) (Φ : Fin n → sProp M) :
    bigSep (Transfers.pending j) Φ
      = iprop((bigSep Finset.univ fun k : Fin o => Φ ⟨j + k.val, by omega⟩) ∗ bigSep (Transfers.pending (j + o)) Φ) := by
  let e : Fin o ↪ Fin n := ⟨fun k => ⟨j + k.val, by omega⟩, fun a b h => Fin.ext (by simpa using h)⟩
  have he : ∀ k, (e k).val = j + k.val := fun _ => rfl
  have hset : (Transfers.pending j : Finset (Fin n)) = Finset.univ.map e ∪ Transfers.pending (j + o) := by
    ext t
    simp only [Transfers.pending, Finset.mem_filter, Finset.mem_univ, _root_.true_and, Finset.mem_union, Finset.mem_map]
    constructor
    · intro h
      by_cases h' : j + o ≤ t.val
      · exact .inr h'
      · exact .inl ⟨⟨t.val - j, by omega⟩, Fin.ext (by rw [he]; simp only; omega)⟩
    · rintro (⟨k, rfl⟩ | h)
      · rw [he]; omega
      · omega
  have hdisj : Disjoint (Finset.univ.map e) (Transfers.pending (j + o) : Finset (Fin n)) := by
    refine Finset.disjoint_left.mpr fun t ht ht' => ?_
    obtain ⟨k, -, rfl⟩ := Finset.mem_map.mp ht
    simp only [Transfers.pending, Finset.mem_filter, Finset.mem_univ, _root_.true_and, he] at ht'
    omega
  rw [hset, BI.bigSep_union hdisj, BI.bigSep_map]
  rfl

/-! ## One row of a gather -/

variable (c : Thread nD τ) {sp : Space} {s₀ s si : Shape} {e : EltTy} {a : Nat}

/-- Row `j` of a gather's payload: the row of the source that the list's entry `j` names. -/
def rowVal {c : Thread nD τ} (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis) (j : Fin (s.size hg.axis')) : (s.rowShape hg.axis').Idx → Elt F e :=
  fun i => src.view.read (Elt F) fs (hg.rowIdx (rows (offs.view.read (Elt F) fo) hn hin j) i)

/-- What the arrival of row `j` of a gather hands back: row `j` of the destination, written with row `offs[j]` of the
    source; entry `j` of the list, at the share `qo`; a piece of the source's share `q`. -/
def RowDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (rowVal (F := F) src hg offs hn fs fo hin j) Finset.univ))
        ∗ (offs.view.loc c ↦[{offs.view.emb (si.rowMajor.symm (j.cast hn.symm))}]{qo} fo))
      ∗ (src.view.loc c ↦[src.view.set]{pieceOf q _ ho j} fs))

instance rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (RowDone (Ix := Ix) (Name := Name) (U := U) (Lvl := Lvl) c src dst hg offs hn ho q qo fs fd fo hin j) := by
  unfold RowDone; infer_instance

/-- The list's entries, in row-major order, are all its indices. -/
theorem entry_bijective {o : ℕ} (hn : si.numel = o) :
    Function.Bijective fun j : Fin o => si.rowMajor.symm (j.cast hn.symm) :=
  si.rowMajor.symm.bijective.comp (finCongr hn.symm).bijective

/-- All the rows of a gather, arrived: the destination written with the gather's payload, the source's share whole, the
    list's share whole. -/
theorem rowsDone_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (RowDone (Ix := Ix) (Name := Name) (U := U) (Lvl := Lvl) c src dst hg offs hn ho q qo fs fd fo hin)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hW : ∀ (j : Fin (s.size hg.axis')) i, rowVal (F := F) src hg offs hn fs fo hin j i
      = gatherPayload hg (src.view.read (Elt F) fs) (rows (offs.view.read (Elt F) fo) hn hin) ((s.rowRect hg.axis' j).emb i) := fun j i => by
    unfold gatherPayload rowVal; rw [Shape.Gathers.idx_rowRect_emb]
  unfold RowDone
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply (pointsTo_rows_write c dst.view hg.axis' fd
      (rowVal (F := F) src hg offs hn fs fo hin) _ hW) $$ Hrows
  isplitl [Hsrc]; · iapply (Entails.of_eq (pointsTo_piecesOf (src.view.set) fs ho q).symm) $$ Hsrc
  iapply (Entails.of_eq (pointsTo_entries c offs.view _ (entry_bijective hn) qo fo).symm) $$ Hoffs

/-! ## Starting a gather of the batch -/

variable {defs : Defs nD τ sig (Elt F) Λ} (EC : UEmb Counters (MT nD τ sig Ix (Elt F) Name U Lvl)) (𝒱 : Variants) (bd : Option 𝒱.V)
variable {α : Type} {Q : α → sProp (MT nD τ sig Ix (Elt F) Name U Lvl)}

/-- `enqueueIndirectGather` at the head of a program, its rows the NEXT transfers of a batch on its semaphore: holding a
    share of the source, the destination outright, a share of the list, whose words are all in range (`hin`), and the
    batch with `j` transfers issued, of which the next ones deliver the gather's rows (`hD`), the tile starts the gather
    and continues with the batch, a gather's rows further on. Each row credits `N` (`hN`). -/
theorem wp_gatherIssue [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {D : Fin n → sProp 𝕄} {j u : ℕ} (hj : j + s.size hg.axis' ≤ n) (hu : u ≤ j * N)
    (hD : ∀ x : Fin (s.size hg.axis'), RowDone c src dst hg offs hn ho q qo fs fd fo hin x ⊢ D ⟨j + x.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun x => gatherRow c src dst hg sem hsrc he hsp hr x (r x)
  let w : (x : Fin (s.size hg.axis')) → (s.rowShape hg.axis').Idx → Elt F e := rowVal (F := F) src hg offs hn fs fo hin
  have hsum : ∑ x, (rd x).dst.view.dmaCredit = s.size hg.axis' * N := by
    rw [Finset.sum_congr rfl fun x _ => hN x, Finset.sum_const, smul_eq_mul, Finset.card_univ, Fintype.card_fin]
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ x, S.row x (S.word fo x) = some (rd x) := fun x => by
    change (rowOf (s₀.size hg.axis) (offs.view.read (Elt F) fo (S.entry x))).map _ = _
    rw [rowOf_of_lt (hin _)]; rfl
  unfold Transfers.Batch
  iintro ⟨Hs, Hd, Ho, ⟨%γ, %γ₀, %κ, #Hinv, HI, H0, Hcred⟩⟩ Hk
  ihave HI' := (Entails.of_eq (bigSep_pending_split hj fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view S.entry (entry_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ x, iprop(inv κ (Transfers.batchBody EC (c, SemLoc.dma sem) N D γ γ₀)
          ∗ ((((dst.view.loc c ↦[(dst.view.slice (s.rowRect hg.axis' x)).set]{fullShare} fd) ∗ S.heldEntry qo fo x)
          ∗ (src.view.loc c ↦[src.view.set]{pieceOf q _ ho x} fs)) ∗ count EC (γ ⟨j + x.val, by omega⟩) 0))
        ⊢ iprop(S.heldEntry qo fo x ∗ (S.heldEntry qo fo x -∗ rowRes c (rd x))) := fun x => by
      iintro ⟨#Hinv, ⟨⟨Hr, He⟩, Hsq⟩, Hγj⟩
      isplitl [He]; · iexact He
      iintro He
      unfold rowRes
      iexists pieceOf q _ ho x, fs, iprop((dst.view.loc c ↦[(dst.view.slice (s.rowRect hg.axis' x)).set]{fullShare} ((dst.view.slice (s.rowRect hg.axis' x)).write (Elt F) fd (w x) Finset.univ)) ∗ S.heldEntry qo fo x)
      isplitl [Hsq]; · iexact Hsq
      isplitl [Hr He]
      · iapply writeUpdate_frame
        isplitl [Hr]
        · iapply (pointsTo_writeUpdate c (v := dst.view.slice (s.rowRect hg.axis' x)) subset_rfl) $$ Hr
        · iexact He
      · have hcr : (rd x).dst.view.amount (SemLoc.dma sem) = N := hN x
        rw [hcr]
        iapply (Transfers.batch_creditUpdate EC (N := N) (D := D) (γ := γ) (γ₀ := γ₀) ⟨j + x.val, by omega⟩ (hD x))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun x _ => hrow x)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.GatherBatch

end
-- ==== Proof.Parts.lean ====
/-
  A VIEW CUT INTO RECTANGLES.

  A view held at a share is its rectangles, held at that share each, when the rectangles are disjoint and cover the
  view's shape (`pointsTo_rects`); and rectangles each written with a payload of its own are the view written with a
  payload that agrees with theirs (`rects_write`).
-/
module

public import Idealize.ShloMosaic.Lib.SparseCore.Stream

@[expose] public section

noncomputable section

namespace Cert.Proof.Parts

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (c : Thread nD τ) {sp : Space} {s : Shape} {e : EltTy} {n : ℕ}

/-- Rectangles that cover a shape cover every view of it. -/
theorem set_eq_biUnion_rects {κ : Kind} (v : View sig κ sp s e) (r : Fin n → Rect s)
    (hc : (Finset.univ : Finset (Fin n)).biUnion (fun j => (r j).set) = Finset.univ) :
    v.set = Finset.univ.biUnion fun j => (v.slice (r j)).set := by
  ext i
  constructor
  · intro hi
    obtain ⟨x, -, rfl⟩ := Finset.mem_map.mp hi
    obtain ⟨j, -, hj⟩ := Finset.mem_biUnion.mp (hc.symm ▸ Finset.mem_univ x : x ∈ Finset.univ.biUnion fun j => (r j).set)
    refine Finset.mem_biUnion.mpr ⟨j, Finset.mem_univ _, ?_⟩
    rw [View.set_slice]
    exact Finset.mem_map_of_mem _ hj
  · intro hi
    obtain ⟨j, -, hj⟩ := Finset.mem_biUnion.mp hi
    exact View.set_slice_subset v (r j) hj

/-- Disjoint rectangles of a shape are disjoint in every view of it. -/
theorem disjoint_rects {κ : Kind} (v : View sig κ sp s e) (r : Fin n → Rect s)
    (hd : ∀ j j', j ≠ j' → Disjoint (r j).set (r j').set) {j j' : Fin n} (h : j ≠ j') :
    Disjoint (v.slice (r j)).set (v.slice (r j')).set := by
  rw [View.set_slice, View.set_slice]
  exact (Finset.disjoint_map _).mpr (hd j j' h)

/-- A view held at a share is its rectangles, held at that share each. -/
theorem pointsTo_rects (v : View sig c.2.kind sp s e) (r : Fin n → Rect s)
    (hd : ∀ j j', j ≠ j' → Disjoint (r j).set (r j').set)
    (hc : (Finset.univ : Finset (Fin n)).biUnion (fun j => (r j).set) = Finset.univ) (q : PosShare TreeShare) (f : Buf Val (v.loc c)) :
    (v.loc c ↦[v.set]{q} f : sProp 𝕄) = bigSep Finset.univ fun j => v.loc c ↦[(v.slice (r j)).set]{q} f := by
  rw [set_eq_biUnion_rects v r hc]
  exact pointsTo_biUnion Finset.univ _ fun j _ j' _ h => disjoint_rects v r hd h

/-- The rectangles held outright, each written with a payload `w j`, are the view held outright, written with a payload
    `W` that is `w j` on rectangle `j`. -/
theorem rects_write (v : View sig c.2.kind sp s e) (r : Fin n → Rect s)
    (hd : ∀ j j', j ≠ j' → Disjoint (r j).set (r j').set)
    (hc : (Finset.univ : Finset (Fin n)).biUnion (fun j => (r j).set) = Finset.univ) (f : Buf Val (v.loc c))
    (w : (j : Fin n) → (r j).shape.Idx → Val e) (W : s.Idx → Val e) (hW : ∀ j i, w j i = W ((r j).emb i)) :
    (bigSep Finset.univ fun j => v.loc c ↦[(v.slice (r j)).set]{fullShare} ((v.slice (r j)).write Val f (w j) Finset.univ) : sProp 𝕄)
      = v.loc c ↦[v.set]{fullShare} (v.write Val f W Finset.univ) := by
  rw [pointsTo_rects c v r hd hc]
  refine BI.bigSep_congr fun j _ => pointsTo_congr fun i hi => ?_
  obtain ⟨x, -, rfl⟩ := Finset.mem_map.mp hi
  have h1 := View.write_emb_of_mem (Val := Val) (v := v.slice (r j)) f (w j) (M := Finset.univ) (Finset.mem_univ x)
  have h2 := View.write_emb_of_mem (Val := Val) (v := v) f W (M := Finset.univ) (Finset.mem_univ ((r j).emb x))
  rw [h1]
  change _ = v.write Val f W Finset.univ (v.emb ((r j).emb x))
  rw [h2, hW j x]

end Cert.Proof.Parts

end
-- ==== Proof.Phase.lean ====
/-
  ONE TABLE'S PART OF A TILE'S TASK.

  The task does the same for each of the three tables: it starts four indirect gathers, 128 rows each, on one DMA
  semaphore, into the four quarters of its row buffer, reading the four rows of a scratch list of indices; it waits four
  times, once per gather; and it copies the row buffer out. `phase` is that part, over any table, list and destination;
  `wp_phase` is its run: the destination ends written with the rows the list names (`gathered`).
-/
module

public import proofs.«01_k».proof.Proof.Gen.KernelIdeal
public import proofs.«01_k».proof.Proof.GatherBatch
public import proofs.«01_k».proof.Proof.Parts
public import Idealize.ShloMosaic.Lib.Pipeline.Kit
public import Idealize.ShloMosaic.Lib.Tactic

@[expose] public section

noncomputable section

namespace Cert.Proof.Phase

open Cert.KernelIdeal Cert.KernelIdeal.Gen
open Idealize.ShloMosaic Idealize.ShloMosaic.SparseCore
open Idealize.ShloMosaic.SparseCore.Cfg (HIx)
open Idealize.SL
open Idealize.SL.BI (sProp Storable bigSep)
open scoped Idealize.SL.BI
open Idealize.SL.BI.BIBase Idealize.SL.BI.Laws Idealize.SL.Sem Idealize.SL.ProofMode
open Idealize.SL.RA
open Cert.Proof.GatherBatch Cert.Proof.Parts

variable {F : FTy → Type} [FloatOps F]

/-! ## The windows -/

theorem inb_win (j : Fin 4) : ∀ a, (![128 * j.val, 0] : Fin 2 → Nat) a + S128x128.size a ≤ S512x128.size a := by
  intro a
  match a with
  | 0 => show 128 * j.val + 128 ≤ 512; omega
  | 1 => show 0 + 128 ≤ 128; omega

theorem inb_row (j : Fin 4) : ∀ a, (![j.val, 0] : Fin 2 → Nat) a + S1x128.size a ≤ S4x128.size a := by
  intro a
  match a with
  | 0 => show j.val + 1 ≤ 4; omega
  | 1 => show 0 + 128 ≤ 128; omega

/-- Quarter `j` of the row buffer's shape. -/
abbrev winRect (j : Fin 4) : Rect S512x128 := Rect.unit (s := S512x128) ![128 * j.val, 0] S128x128.size (inb_win j)
/-- Row `j` of the list's shape. -/
abbrev rowRect' (j : Fin 4) : Rect S4x128 := Rect.unit (s := S4x128) ![j.val, 0] S1x128.size (inb_row j)

/-- Quarter `j` of the row buffer. -/
abbrev win (buf : Memref sig .scVector .vmem S512x128 .f32) (j : Fin 4) : Memref sig .scVector .vmem S128x128 .f32 :=
  buf.slice (winRect j) (fun _ => rfl)
/-- Row `j` of the list, as a list of 128 indices. -/
abbrev ids (idx : Memref sig .scVector .vmem S4x128 .i32) (j : Fin 4) : Memref sig .scVector .vmem S128 .i32 :=
  (idx.slice (rowRect' j) (fun _ => rfl)).squeeze S128 squeezes_S1x128_S128

theorem four_dvd_win : 4 ∣ S512x128.size 0 := ⟨128, rfl⟩
theorem four_dvd_row : 4 ∣ S4x128.size 0 := ⟨1, rfl⟩

theorem winRect_eq (j : Fin 4) : winRect j = Rect.part (s := S512x128) (a₀ := 0) four_dvd_win j := by
  unfold winRect Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem rowRect'_eq (j : Fin 4) : rowRect' j = Rect.part (s := S4x128) (a₀ := 0) four_dvd_row j := by
  unfold rowRect' Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem win_disjoint : ∀ j j' : Fin 4, j ≠ j' → Disjoint (winRect j).set (winRect j').set := fun j j' h => by
  rw [winRect_eq, winRect_eq]; exact Rect.part_disjoint four_dvd_win h
theorem win_cover : (Finset.univ : Finset (Fin 4)).biUnion (fun j => (winRect j).set) = Finset.univ :=
  (Finset.biUnion_congr rfl fun j _ => by rw [winRect_eq]).trans (Rect.biUnion_part four_dvd_win)
theorem row_disjoint : ∀ j j' : Fin 4, j ≠ j' → Disjoint (rowRect' j).set (rowRect' j').set := fun j j' h => by
  rw [rowRect'_eq, rowRect'_eq]; exact Rect.part_disjoint four_dvd_row h
theorem row_cover : (Finset.univ : Finset (Fin 4)).biUnion (fun j => (rowRect' j).set) = Finset.univ :=
  (Finset.biUnion_congr rfl fun j _ => by rw [rowRect'_eq]).trans (Rect.biUnion_part four_dvd_row)

theorem set_ids (idx : Memref sig .scVector .vmem S4x128 .i32) (j : Fin 4) : (ids idx j).view.set = (idx.view.slice (rowRect' j)).set := by
  show ((idx.view.slice (rowRect' j)).reshape S128 squeezes_S1x128_S128.numel_eq).set = _
  exact View.set_reshape _ _

/-! ## What the gathers deliver -/

variable (d : Dev nD) (a : Fin τ.nSC) (b : Fin τ.nSub)
variable {s₀ : Shape} (src : Memref sig .scVector .hbm s₀ .f32) (hg : s₀.Gathers 0 S128x128) (hr : s₀.StreamRows 0)
variable (idx : Memref sig .scVector .vmem S4x128 .i32) (buf : Memref sig .scVector .vmem S512x128 .f32)
variable (out : Memref sig .scVector .hbm S512x128 .f32) (gsem osem : DmaSem sig)

omit [FloatOps F] in
/-- Every index of the list in range, so is every index of each of its rows. -/
theorem ids_inb {z : ℕ} {fo : Buf (Elt F) (idx.view.loc (V d a b))} (hin : ∀ x, (idx.view.read (Elt F) fo x).toNat < z) (j : Fin 4) :
    ∀ x, ((ids idx j).view.read (Elt F) fo x).toNat < z := fun x =>
  hin ((rowRect' j).emb (Shape.reshapeEquiv squeezes_S1x128_S128.numel_eq x))

/-- What the gather of list row `j` delivers. -/
def quarter (ft : Buf (Elt F) (src.view.loc (V d a b))) (fo : Buf (Elt F) (idx.view.loc (V d a b)))
    (hin : ∀ x, (idx.view.read (Elt F) fo x).toNat < s₀.size hg.axis) (j : Fin 4) : S128x128.Idx → Elt F .f32 :=
  gatherPayload hg (src.view.read (Elt F) ft)
    (rows (si := S128) ((ids idx j).view.read (Elt F) fo) rfl (ids_inb d a b idx hin j))

/-- The quarter a row of the row buffer lies in. -/
def winOf (x : S512x128.Idx) : Fin 4 := ⟨(x 0).val / 128, by have := (x 0).isLt; change (x 0).val < 512 at this; omega⟩
/-- The index within that quarter. -/
def inWin (x : S512x128.Idx) : S128x128.Idx := fun | 0 => ⟨(x 0).val % 128, Nat.mod_lt _ (by decide)⟩ | 1 => x 1

theorem winOf_emb (j : Fin 4) (i : (winRect j).shape.Idx) : winOf ((winRect j).emb i) = j := by
  refine Fin.ext ?_
  have h : (((winRect j).emb i) 0).val = 128 * j.val + 1 * (i 0).val := rfl
  have hi : (i 0).val < 128 := (i 0).isLt
  show (((winRect j).emb i) 0).val / 128 = j.val
  rw [h]; omega

theorem inWin_emb (j : Fin 4) (i : (winRect j).shape.Idx) : inWin ((winRect j).emb i) = i := by
  have h0 : (((winRect j).emb i) 0).val = 128 * j.val + 1 * (i 0).val := rfl
  have h1 : (((winRect j).emb i) 1).val = 0 + 1 * (i 1).val := rfl
  have hi : (i 0).val < 128 := (i 0).isLt
  funext k
  refine Fin.ext ?_
  match k with
  | 0 => show (((winRect j).emb i) 0).val % 128 = _; rw [h0]; omega
  | 1 => show (((winRect j).emb i) 1).val = _; rw [h1]; omega

/-- What the four gathers leave in the row buffer: at row `r`, what the gather of the quarter `r / 128` delivered. -/
def gathered (ft : Buf (Elt F) (src.view.loc (V d a b))) (fo : Buf (Elt F) (idx.view.loc (V d a b)))
    (hin : ∀ x, (idx.view.read (Elt F) fo x).toNat < s₀.size hg.axis) (x : S512x128.Idx) : Elt F .f32 :=
  quarter d a b src hg idx ft fo hin (winOf x) (inWin x)

/-! ## The program -/

/-- The start of the gather of list row `j`. -/
def issue (j : Fin 4) : Prog (TpuEff nD τ sig (Elt F) Λ₀ (.scVector a b)) PUnit :=
  SparseCore.enqueueIndirectGather (p := .scVector a b) rfl src (win buf j) hg (ids idx j) rfl gsem (View.wordExact_bits rfl) rfl (Or.inl rfl) hr

/-- The wait for the gather of list row `j`. -/
abbrev waitEff (j : Fin 4) : TpuEff nD τ sig (Elt F) Λ₀ (.scVector a b) PUnit :=
  .waitDma2 gsem src (win buf j) (View.wordExact_bits rfl) (View.wordExact_bits rfl)

/-- One table's part of the task, ahead of a continuation. -/
def phase (hbuf : buf.view.WordExact) (k : PUnit → Prog (TpuEff nD τ sig (Elt F) Λ₀ (.scVector a b)) PUnit) :
    Prog (TpuEff nD τ sig (Elt F) Λ₀ (.scVector a b)) PUnit :=
  issue a b src hg hr idx buf gsem 0 >>= fun _ => issue a b src hg hr idx buf gsem 1 >>= fun _ =>
  issue a b src hg hr idx buf gsem 2 >>= fun _ => issue a b src hg hr idx buf gsem 3 >>= fun _ =>
  .op (waitEff a b src buf gsem 0) fun _ => .op (waitEff a b src buf gsem 1) fun _ =>
  .op (waitEff a b src buf gsem 2) fun _ => .op (waitEff a b src buf gsem 3) fun _ =>
  .op (.enqueueDma buf (.here out) (.dma osem) hbuf (View.wordExact_bits rfl) ⟨Or.inl rfl, trivial⟩) fun _ =>
  .op (.waitDma2 osem buf out hbuf (View.wordExact_bits rfl)) k

/-! ## Its run -/

section Run

variable {U : Type} [URA U] (EC : UEmb Counters (MT nD τ sig (HIx 1) (Elt F) ℕ U ℕ)) [EC.LandsIn (upEmb : UEmb _ (MT nD τ sig (HIx 1) (Elt F) ℕ U ℕ))]

local notation "𝕄" => MT nD τ sig (HIx 1) (Elt F) ℕ U ℕ

variable (defs : Defs nD τ sig (Elt F) Λ₀) (𝒱 : Variants) (bd : Option 𝒱.V)
variable (q : PosShare TreeShare) (ft : Buf (Elt F) (src.view.loc (V d a b))) (fo : Buf (Elt F) (idx.view.loc (V d a b)))
variable (fb : Buf (Elt F) (buf.view.loc (V d a b))) (f0 : Buf (Elt F) (out.view.loc (V d a b)))
variable (hin : ∀ x, (idx.view.read (Elt F) fo x).toNat < s₀.size hg.axis)

/-- What row `x` of gather `j` hands back at its arrival. -/
def arrived (j : Fin 4) (x : Fin 128) : sProp 𝕄 :=
  RowDone (Ix := HIx 1) (Name := ℕ) (U := U) (Lvl := ℕ) (V d a b) src (win buf j) hg (ids idx j) rfl (by show 0 < 128; decide)
    (pieceOf q 4 (by decide) j) fullShare ft fb fo (ids_inb d a b idx hin j) x

/-- The batch's deliveries: transfer `t` is row `t % 128` of gather `t / 128`. -/
def deliv (t : Fin (4 * 128)) : sProp 𝕄 := arrived (U := U) d a b src hg idx buf q ft fo fb hin t.divNat t.modNat

instance deliv_storable (t : Fin (4 * 128)) : Storable (upEmb : UEmb _ 𝕄) (deliv (U := U) d a b src hg idx buf q ft fo fb hin t) := by
  unfold deliv arrived; exact rowDone_storable ..

/-- All of them are the four gathers' rows. -/
theorem deliv_all : (bigSep Finset.univ (deliv (U := U) d a b src hg idx buf q ft fo fb hin))
    = bigSep Finset.univ fun j : Fin 4 => bigSep Finset.univ (arrived (U := U) d a b src hg idx buf q ft fo fb hin j) := by
  rw [BI.bigSep_univ_equiv (finProdFinEquiv (m := 4) (n := 128)) (deliv (U := U) d a b src hg idx buf q ft fo fb hin), BI.bigSep_univ_prod]
  refine BI.bigSep_congr fun j _ => BI.bigSep_congr fun x _ => ?_
  unfold deliv
  have h := (finProdFinEquiv (m := 4) (n := 128)).left_inv (j, x)
  have h1 : (finProdFinEquiv (j, x)).divNat = j := congrArg Prod.fst h
  have h2 : (finProdFinEquiv (j, x)).modNat = x := congrArg Prod.snd h
  rw [h1, h2]

/-- The next gather started: the batch moves on by its 128 rows. -/
theorem wp_issue (N : ℕ) (hN : ∀ (j : Fin 4) x, ((win buf j).slice (S128x128.rowRect hg.axis' x) (S128x128.stride_rowRect hg.axis' x)).view.dmaCredit = N)
    (j : Fin 4) (k : PUnit → Prog (TpuEff nD τ sig (Elt F) Λ₀ (.scVector a b)) PUnit) (Q : PUnit → sProp 𝕄) :
    iprop((src.view.loc (V d a b) ↦[src.view.set]{pieceOf q 4 (by decide) j} ft)
        ∗ (buf.view.loc (V d a b) ↦[(buf.view.slice (winRect j)).set]{fullShare} fb)
        ∗ (idx.view.loc (V d a b) ↦[(idx.view.slice (rowRect' j)).set]{fullShare} fo)
        ∗ Transfers.Batch EC (V d a b) (.dma gsem) default N (deliv (U := U) d a b src hg idx buf q ft fo fb hin) (128 * j.val) 0)
      ⊢ iprop((Transfers.Batch EC (V d a b) (.dma gsem) default N (deliv (U := U) d a b src hg idx buf q ft fo fb hin) (128 * j.val + 128) 0
              -∗ wp frame (wpE defs 𝒱 (V d a b) bd) Set.univ (k ⟨⟩) Q)
          -∗ wp frame (wpE defs 𝒱 (V d a b) bd) Set.univ (issue a b src hg hr idx buf gsem j >>= k) Q) := by
  have hD : ∀ x : Fin 128, arrived (U := U) d a b src hg idx buf q ft fo fb hin j x
      ⊢ deliv (U := U) d a b src hg idx buf q ft fo fb hin ⟨128 * j.val + x.val, by omega⟩ := fun x => by
    unfold deliv
    have h1 : (⟨128 * j.val + x.val, by omega⟩ : Fin (4 * 128)).divNat = j := Fin.ext (by show (128 * j.val + x.val) / 128 = j.val; omega)
    have h2 : (⟨128 * j.val + x.val, by omega⟩ : Fin (4 * 128)).modNat = x := Fin.ext (by show (128 * j.val + x.val) % 128 = x.val; omega)
    rw [h1, h2]
  rw [← set_ids]
  exact wp_gatherIssue (V d a b) EC 𝒱 bd (src := src) (dst := win buf j) (hg := hg) (offs := ids idx j) (hn := rfl) (qo := fullShare) default N (hN j)
    (by show 0 < 128; decide) (ids_inb d a b idx hin j) (by show 128 * j.val + 128 ≤ 4 * 128; omega) (Nat.zero_le _) hD

/-- The four gathers arrived: the table's share, the list and the row buffer, written with what they gathered. -/
theorem deliv_join :
    (bigSep Finset.univ (deliv (U := U) d a b src hg idx buf q ft fo fb hin))
      ⊢ iprop((src.view.loc (V d a b) ↦[src.view.set]{q} ft) ∗ (idx.view.loc (V d a b) ↦[idx.view.set]{fullShare} fo)
          ∗ (buf.view.loc (V d a b) ↦[buf.view.set]{fullShare} (buf.view.write (Elt F) fb (gathered d a b src hg idx ft fo hin) Finset.univ))) := by
  rw [deliv_all]
  have h1 : ∀ j ∈ (Finset.univ : Finset (Fin 4)), (bigSep Finset.univ (arrived (U := U) d a b src hg idx buf q ft fo fb hin j))
      ⊢ iprop(((buf.view.loc (V d a b) ↦[(buf.view.slice (winRect j)).set]{fullShare}
            ((buf.view.slice (winRect j)).write (Elt F) fb (quarter d a b src hg idx ft fo hin j) Finset.univ))
          ∗ (src.view.loc (V d a b) ↦[src.view.set]{pieceOf q 4 (by decide) j} ft))
          ∗ (idx.view.loc (V d a b) ↦[(idx.view.slice (rowRect' j)).set]{fullShare} fo)) := fun j _ => by
    rw [← set_ids]
    refine Entails.trans (rowsDone_join (V d a b) src (win buf j) hg (ids idx j) rfl (by show 0 < 128; decide) (pieceOf q 4 (by decide) j) fullShare
      ft fb fo (ids_inb d a b idx hin j)) ?_
    iintro ⟨H1, H2, H3⟩
    isplitl [H1 H2]
    · isplitl [H1]; · iexact H1
      iexact H2
    iexact H3
  refine Entails.trans (BI.bigSep_mono h1) ?_
  iintro H
  ihave H1 := Transfers.bigSep_sep_out _ _ _ $$ H
  icases H1 with ⟨H2, Hidx⟩
  ihave H3 := Transfers.bigSep_sep_out _ _ _ $$ H2
  icases H3 with ⟨Hbuf, Hsrc⟩
  isplitl [Hsrc]; · iapply (Entails.of_eq (pointsTo_piecesOf (src.view.set) ft _ q).symm) $$ Hsrc
  isplitl [Hidx]; · iapply (Entails.of_eq (pointsTo_rects (V d a b) idx.view rowRect' row_disjoint row_cover fullShare fo).symm) $$ Hidx
  iapply (Entails.of_eq (rects_write (V d a b) buf.view winRect win_disjoint win_cover fb (quarter d a b src hg idx ft fo hin)
    (gathered d a b src hg idx ft fo hin) (fun j i => by unfold gathered; rw [winOf_emb, inWin_emb]))) $$ Hbuf

include EC in
/-- A synchronous copy: the transfer and its wait. -/
theorem wp_syncCopy {sp sp' : Space} {s : Shape} {e : EltTy} {c : Thread nD τ} {from_ : Memref sig c.2.kind sp s e} {to_ : Memref sig c.2.kind sp' s e}
    {sem : DmaSem sig} {h1 h1' : from_.view.WordExact} {h2 h2' : to_.view.WordExact}
    {h3 : DmaTarget.Typed (nD := nD) sp (.dma sem : SemLoc sig) (.here to_)} {k : PUnit → Prog (TpuEff nD τ sig (Elt F) Λ₀ c.2) PUnit} {Q : PUnit → sProp 𝕄}
    {fs : Buf (Elt F) (from_.view.loc c)} {fd : Buf (Elt F) (to_.view.loc c)} (qs : PosShare TreeShare)
    (N : ℕ) (hN : to_.view.amount (.dma sem : SemLoc sig) = N) (hN0 : 0 < N) {O : CellTallies nD τ sig (HIx 1)} {W : Waits sig (HIx 1)} :
    iprop((from_.view.loc c ↦[from_.view.set]{qs} fs) ∗ (to_.view.loc c ↦[to_.view.set]{fullShare} fd) ∗ semVal (c, (.dma sem : SemLoc sig)) 0
        ∗ owes c O W ∗ Transfers.MayWaits c default O)
      ⊢ iprop((((to_.view.loc c ↦[to_.view.set]{fullShare} (to_.view.write (Elt F) fd (from_.view.read (Elt F) fs) Finset.univ))
              ∗ (from_.view.loc c ↦[from_.view.set]{qs} fs) ∗ semVal (c, (.dma sem : SemLoc sig)) 0 ∗ owes c O (insert (SemLoc.dma sem, default) W))
            -∗ wp frame (wpE defs 𝒱 c bd) Set.univ (k ⟨⟩) Q)
          -∗ wp frame (wpE defs 𝒱 c bd) Set.univ (.op (.enqueueDma from_ (.here to_) (.dma sem) h1 h2 h3) fun _ => .op (.waitDma2 sem from_ to_ h1' h2') k) Q) := by
  iintro ⟨Hs, Hd, Hv, HO, #HM⟩ Hk
  iapply (Transfers.wp_dmaLocal EC 𝒱 c bd (q := qs) (fs := fs) (fd := fd) default N hN hN0 subset_rfl) $$ [Hs Hd Hv]
  · isplitl [Hs]; · iexact Hs
    isplitl [Hd]; · iexact Hd
    iexact Hv
  iintro HF
  iapply (Transfers.wp_waitLocalO EC 𝒱 c bd default (hN : to_.view.dmaCredit = N) (O := O) (W := W)) $$ [HF HO]
  · isplitl [HF]; · iexact HF
    isplitl [HO]; · iexact HO
    iapply (Transfers.MayWaits.elim (SemLoc.dma sem)) $$ HM
  iintro ⟨⟨Hd, Hs⟩, Hv, HO⟩
  iapply Hk
  isplitl [Hd]; · iexact Hd
  isplitl [Hs]; · iexact Hs
  isplitl [Hv]; · iexact Hv
  iexact HO

include EC in
/-- One table's part of the task, run: the table's share and the list come back as they were, the row buffer and the
    destination hold the gathered rows, both semaphores are back at zero. -/
theorem wp_phase (N NO : ℕ) (hN : ∀ (j : Fin 4) x, ((win buf j).slice (S128x128.rowRect hg.axis' x) (S128x128.stride_rowRect hg.axis' x)).view.dmaCredit = N)
    (hN0 : 0 < N) (hJ : ∀ j, (win buf j).view.dmaCredit = 128 * N) (hNO : out.view.amount (.dma osem : SemLoc sig) = NO) (hNO0 : 0 < NO)
    (hbuf : buf.view.WordExact) (k : PUnit → Prog (TpuEff nD τ sig (Elt F) Λ₀ (.scVector a b)) PUnit) (Q : PUnit → sProp 𝕄)
    {O : CellTallies nD τ sig (HIx 1)} {W : Waits sig (HIx 1)} :
    iprop((src.view.loc (V d a b) ↦[src.view.set]{q} ft) ∗ (idx.view.loc (V d a b) ↦[idx.view.set]{fullShare} fo)
        ∗ (buf.view.loc (V d a b) ↦[buf.view.set]{fullShare} fb) ∗ (out.view.loc (V d a b) ↦[out.view.set]{fullShare} f0)
        ∗ semVal (V d a b, (.dma gsem : SemLoc sig)) 0 ∗ semVal (V d a b, (.dma osem : SemLoc sig)) 0
        ∗ owes (V d a b) O W ∗ Transfers.MayWaits (V d a b) default O)
      ⊢ iprop((((src.view.loc (V d a b) ↦[src.view.set]{q} ft) ∗ (idx.view.loc (V d a b) ↦[idx.view.set]{fullShare} fo)
              ∗ (buf.view.loc (V d a b) ↦[buf.view.set]{fullShare} (buf.view.write (Elt F) fb (gathered d a b src hg idx ft fo hin) Finset.univ))
              ∗ (out.view.loc (V d a b) ↦[out.view.set]{fullShare} (out.view.write (Elt F) f0 (gathered d a b src hg idx ft fo hin) Finset.univ))
              ∗ semVal (V d a b, (.dma gsem : SemLoc sig)) 0 ∗ semVal (V d a b, (.dma osem : SemLoc sig)) 0
              ∗ ∃ W', ⌜∀ p ∈ W', p ∈ W ∨ p.2 = none⌝ ∗ owes (V d a b) O W')
            -∗ wp frame (wpE defs 𝒱 (V d a b) bd) Set.univ (k ⟨⟩) Q)
          -∗ wp frame (wpE defs 𝒱 (V d a b) bd) Set.univ (phase a b src hg hr idx buf out gsem osem hbuf k) Q) := by
  have four : ∀ Φ : Fin 4 → sProp 𝕄, bigSep Finset.univ Φ = iprop(Φ 0 ∗ Φ 1 ∗ Φ 2 ∗ Φ 3) := fun Φ =>
    BI.bigSep_univ_eq_bigSepL [0, 1, 2, 3] (by decide) (by decide) Φ
  iintro ⟨Hs, Hi, Hb, Ho, Hg, Hv, HO, #HM⟩ Hk
  imod (Transfers.batch_alloc' EC (V d a b) (sm := .dma gsem) default N (deliv (U := U) d a b src hg idx buf q ft fo fb hin) (E := Set.univ)) $$ Hg with HB
  ihave Hs := (Entails.of_eq ((pointsTo_piecesOf (src.view.set) ft (by decide : 0 < 4) q).trans (four _))) $$ Hs
  ihave Hi := (Entails.of_eq ((pointsTo_rects (V d a b) idx.view rowRect' row_disjoint row_cover fullShare fo).trans (four _))) $$ Hi
  ihave Hb := (Entails.of_eq ((pointsTo_rects (V d a b) buf.view winRect win_disjoint win_cover fullShare fb).trans (four _))) $$ Hb
  icases Hs with ⟨Hs0, Hs1, Hs2, Hs3⟩
  icases Hi with ⟨Hi0, Hi1, Hi2, Hi3⟩
  icases Hb with ⟨Hb0, Hb1, Hb2, Hb3⟩
  unfold phase
  iapply (wp_issue d a b src hg hr idx buf gsem EC defs 𝒱 bd q ft fo fb hin N hN 0) $$ [Hs0 Hi0 Hb0 HB]
  · isplitl [Hs0]; · iexact Hs0
    isplitl [Hb0]; · iexact Hb0
    isplitl [Hi0]; · iexact Hi0
    iexact HB
  iintro HB
  iapply (wp_issue d a b src hg hr idx buf gsem EC defs 𝒱 bd q ft fo fb hin N hN 1) $$ [Hs1 Hi1 Hb1 HB]
  · isplitl [Hs1]; · iexact Hs1
    isplitl [Hb1]; · iexact Hb1
    isplitl [Hi1]; · iexact Hi1
    iexact HB
  iintro HB
  iapply (wp_issue d a b src hg hr idx buf gsem EC defs 𝒱 bd q ft fo fb hin N hN 2) $$ [Hs2 Hi2 Hb2 HB]
  · isplitl [Hs2]; · iexact Hs2
    isplitl [Hb2]; · iexact Hb2
    isplitl [Hi2]; · iexact Hi2
    iexact HB
  iintro HB
  iapply (wp_issue d a b src hg hr idx buf gsem EC defs 𝒱 bd q ft fo fb hin N hN 3) $$ [Hs3 Hi3 Hb3 HB]
  · isplitl [Hs3]; · iexact Hs3
    isplitl [Hb3]; · iexact Hb3
    isplitl [Hi3]; · iexact Hi3
    iexact HB
  iintro HB
  iapply (Transfers.wp_waitBatchMulO EC 𝒱 (V d a b) bd default 128 (hJ 0) (D := deliv (U := U) d a b src hg idx buf q ft fo fb hin) (j := 512) (u := 0) (by omega) (O := O) (W := W)) $$ [HB HO]
  · isplitl [HB]; · iexact HB
    isplitl [HO]; · iexact HO
    iapply (Transfers.MayWaits.elim (SemLoc.dma gsem)) $$ HM
  iintro ⟨HB, HO⟩
  iapply (Transfers.wp_waitBatchMulO EC 𝒱 (V d a b) bd default 128 (hJ 1) (D := deliv (U := U) d a b src hg idx buf q ft fo fb hin) (j := 512) (u := 0 + 128 * N) (by omega) (O := O)) $$ [HB HO]
  · isplitl [HB]; · iexact HB
    isplitl [HO]; · iexact HO
    iapply (Transfers.MayWaits.elim (SemLoc.dma gsem)) $$ HM
  iintro ⟨HB, HO⟩
  iapply (Transfers.wp_waitBatchMulO EC 𝒱 (V d a b) bd default 128 (hJ 2) (D := deliv (U := U) d a b src hg idx buf q ft fo fb hin) (j := 512) (u := 0 + 128 * N + 128 * N) (by omega) (O := O)) $$ [HB HO]
  · isplitl [HB]; · iexact HB
    isplitl [HO]; · iexact HO
    iapply (Transfers.MayWaits.elim (SemLoc.dma gsem)) $$ HM
  iintro ⟨HB, HO⟩
  iapply (Transfers.wp_waitBatchAllO EC 𝒱 (V d a b) bd default (hJ 3) hN0 (D := deliv (U := U) d a b src hg idx buf q ft fo fb hin)
    (u := 0 + 128 * N + 128 * N + 128 * N) (by omega) (O := O)) $$ [HB HO]
  · isplitl [HB]; · iexact HB
    isplitl [HO]; · iexact HO
    iapply (Transfers.MayWaits.elim (SemLoc.dma gsem)) $$ HM
  iintro ⟨HD, Hg, HO⟩
  ihave HD := (deliv_join d a b src hg idx buf q ft fo fb hin) $$ HD
  icases HD with ⟨Hs, Hi, Hb⟩
  iapply (wp_syncCopy EC defs 𝒱 bd fullShare NO hNO hNO0 (O := O) (c := V d a b)) $$ [Hb Ho Hv HO]
  · isplitl [Hb]; · iexact Hb
    isplitl [Ho]; · iexact Ho
    isplitl [Hv]; · iexact Hv
    isplitl [HO]; · iexact HO
    iexact HM
  iintro ⟨Ho, Hb, Hv, HO⟩
  iapply Hk
  isplitl [Hs]; · iexact Hs
  isplitl [Hi]; · iexact Hi
  isplitl [Hb]; · iexact Hb
  isplitl [Ho]
  · rw [View.read_write_univ]
    iexact Ho
  isplitl [Hg]; · iexact Hg
  isplitl [Hv]; · iexact Hv
  iexists _
  isplitr
  swap
  · iexact HO
  · ipureintro
    intro p hp
    simp only [Finset.mem_insert, Set.mem_insert_iff] at hp
    rcases hp with rfl | rfl | rfl | rfl | rfl | h
    all_goals first | exact .inr rfl | exact .inl h

end Run

end Cert.Proof.Phase

end
-- ==== Proof.Looked.lean ====
/-
  WHAT THE GATHERS LOOK UP, in closed form.

  `looked t i` is the array of 16384 rows whose row `r` is the row of the table `t` that entry `(r / 128, r % 128)` of
  the 128×128 array of indices `i` names. `gathered_apply` reads what a tile's four gathers leave in its row buffer at
  one index.
-/
module

public import proofs.«01_k».proof.Proof.Phase

@[expose] public section

noncomputable section

namespace Cert.Proof.Looked

open Cert.KernelIdeal Cert.KernelIdeal.Gen
open Idealize.ShloMosaic Idealize.ShloMosaic.SparseCore
open Cert.Proof.Phase

variable {F : FTy → Type}

/-- A table of `z` rows of 128 columns. -/
abbrev Tab (z : ℕ) : Shape := ⟨2, ![z, 128]⟩

/-- The index of the array of indices that names row `r` of the result. -/
def entry (r : Fin 16384) : S128x128.Idx :=
  Shape.pair (d := ![128, 128]) ⟨r.val / 128, by have := r.isLt; show r.val / 128 < 128; omega⟩ ⟨r.val % 128, Nat.mod_lt _ (by decide)⟩

/-- The rows of the table that the indices name. -/
def looked {α : Type} {z : ℕ} (hz : 0 < z) (t : (Tab z).Idx → α) (i : S128x128.Idx → BitVec 32) (x : S16384x128.Idx) : α :=
  t (Shape.pair (d := ![z, 128]) ⟨(i (entry (x 0))).toNat % z, Nat.mod_lt _ hz⟩ (x 1))

/-- What the gathers leave at an index of the row buffer: the table at the row that the list's entry
    `(row / 128, row % 128)` names, same column. -/
theorem gathered_apply (d : Dev nD) (a : Fin τ.nSC) (b : Fin τ.nSub) {z : ℕ} (src : Memref sig .scVector .hbm (Tab z) .f32)
    (hg : (Tab z).Gathers 0 S128x128) (idx : Memref sig .scVector .vmem S4x128 .i32)
    (ft : Buf (Elt F) (src.view.loc (V d a b))) (fo : Buf (Elt F) (idx.view.loc (V d a b)))
    (hin : ∀ x, (idx.view.read (Elt F) fo x).toNat < (Tab z).size hg.axis) (x : S512x128.Idx) :
    gathered d a b src hg idx ft fo hin x
      = src.view.read (Elt F) ft (Shape.pair (d := ![z, 128])
          ⟨(idx.view.read (Elt F) fo (Shape.pair (d := ![4, 128]) (winOf x) (inWin x 0))).toNat, hin _⟩ (x 1)) := by
  unfold gathered quarter gatherPayload
  refine congrArg _ ?_
  have hrow : ∀ k : Fin 128, (rows (si := S128) ((ids idx (winOf x)).view.read (Elt F) fo) rfl (ids_inb d a b idx hin (winOf x)) k).val
      = (idx.view.read (Elt F) fo (Shape.pair (d := ![4, 128]) (winOf x) k)).toNat := fun k => by
    have he : (rowRect' (winOf x)).emb (Shape.reshapeEquiv squeezes_S1x128_S128.numel_eq (S128.rowMajor.symm (k.cast rfl)))
        = Shape.pair (d := ![4, 128]) (winOf x) k := by
      have h0 : Shape.reshapeEquiv squeezes_S1x128_S128.numel_eq (S128.rowMajor.symm (k.cast rfl)) = (Shape.pair (d := ![1, 128]) ⟨0, Nat.one_pos⟩ k : S1x128.Idx) := by
        refine Shape.reshapeEquiv_eq_of_rowMajor _ ?_
        rw [Equiv.apply_symm_apply]
        show (S1x128.rowMajor (Shape.pair (d := ![1, 128]) ⟨0, Nat.one_pos⟩ k)).val = k.val
        refine (Shape.rowMajor_pair_val (d := ![1, 128]) _ _).trans ?_
        show 0 * 128 + k.val = k.val
        omega
      rw [h0]
      funext ax
      refine Fin.ext ?_
      match ax with
      | 0 => show (winOf x).val + 1 * 0 = (winOf x).val; omega
      | 1 => show 0 + 1 * k.val = k.val; omega
    show (idx.view.read (Elt F) fo ((rowRect' (winOf x)).emb (Shape.reshapeEquiv squeezes_S1x128_S128.numel_eq (S128.rowMajor.symm (k.cast rfl))))).toNat = _
    rw [he]
  funext ax
  refine Fin.ext ?_
  match ax with
  | 0 =>
    have h := Shape.Gathers.idx_axis hg (rows (si := S128) ((ids idx (winOf x)).view.read (Elt F) fo) rfl (ids_inb d a b idx hin (winOf x))) (inWin x)
    refine (congrArg Fin.val h).trans ((hrow _).trans ?_)
    rfl
  | 1 =>
    refine (Shape.Gathers.idx_of_ne hg _ (inWin x) 1 Nat.one_ne_zero).trans ?_
    rfl

end Cert.Proof.Looked

end
-- ==== Proof.Setup.lean ====
/-
  THE LAUNCH'S SET-UP AND WHAT THE SPARSECORE CALL CARRIES.

  The program as the launch theorem sees it (`K`, `D`, `facts`), the ghost state (the handshakes' rounds, the TensorCore
  pipeline's rounds, the transfers' counters), the operands of the SparseCore call as arrays (`Ops`), and what the call's
  handshakes carry (`P`): tile `w` of the 32 takes the four rows `4w …` of each array of indices, the 512 rows `512w …`
  of each result, and a thirty-second share of each table, and brings them back, its rows of the results holding what
  was looked up.
-/
module

public import proofs.«01_k».proof.Proof.Looked
public import Idealize.ShloMosaic.Lib.SparseCore.Quiescent
public import Idealize.ShloMosaic.Lib.SparseCore.Ops
public import Idealize.ShloMosaic.Lib.SparseCore.Stream
public import Idealize.ShloMosaic.Lib.Pipeline.Kit

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Looked

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := UR sig nD τ
abbrev UU : Type := UH × (UP × Counters)

local notation "𝕄" => MT nD τ sig (HIx 1) (Elt F) ℕ UU ℕ

/-- The handshakes' component, -/
abbrev EH : Emb UH (MT nD τ sig (HIx 1) (Elt F) ℕ UU ℕ) := embL
/-- the TensorCore pipeline's. -/
abbrev EP : Emb UP (MT nD τ sig (HIx 1) (Elt F) ℕ UU ℕ) := (Emb.inl : Emb UP (UP × Counters)).trans embR

/-! ## The operands of the SparseCore call -/

/-- The arrays the call reads: three arrays of indices, three tables; and what the results hold before it. -/
structure Ops (F : FTy → Type) where
  i0 : S128x128.Idx → Elt F .i32
  i1 : S128x128.Idx → Elt F .i32
  i2 : S128x128.Idx → Elt F .i32
  t0 : S1024x128.Idx → Elt F .f32
  t1 : S1024x128.Idx → Elt F .f32
  t2 : S1000x128.Idx → Elt F .f32
  o0 : S16384x128.Idx → Elt F .f32
  o1 : S16384x128.Idx → Elt F .f32
  o2 : S16384x128.Idx → Elt F .f32

/-- Every index names a row of every table. -/
def Ops.InRange (X : Ops F) : Prop := ∀ x, (X.i0 x).toNat < 1000 ∧ (X.i1 x).toNat < 1000 ∧ (X.i2 x).toNat < 1000

/-- What the call leaves in the results. -/
abbrev Ops.r0 (X : Ops F) : S16384x128.Idx → Elt F .f32 := looked (z := 1024) (by decide) X.t0 X.i0
abbrev Ops.r1 (X : Ops F) : S16384x128.Idx → Elt F .f32 := looked (z := 1024) (by decide) X.t1 X.i1
abbrev Ops.r2 (X : Ops F) : S16384x128.Idx → Elt F .f32 := looked (z := 1000) (by decide) X.t2 X.i2

abbrev i0Loc (d : Dev nD) : Loc nD τ sig := (SparseCore.T d).loc main_v3
abbrev i1Loc (d : Dev nD) : Loc nD τ sig := (SparseCore.T d).loc main_v6
abbrev i2Loc (d : Dev nD) : Loc nD τ sig := (SparseCore.T d).loc main_v9
abbrev t0Loc (d : Dev nD) : Loc nD τ sig := (SparseCore.T d).loc main_v11
abbrev t1Loc (d : Dev nD) : Loc nD τ sig := (SparseCore.T d).loc main_v13
abbrev t2Loc (d : Dev nD) : Loc nD τ sig := (SparseCore.T d).loc main_v14
abbrev o0Loc (d : Dev nD) : Loc nD τ sig := (SparseCore.T d).loc main_v15_0
abbrev o1Loc (d : Dev nD) : Loc nD τ sig := (SparseCore.T d).loc main_v15_1
abbrev o2Loc (d : Dev nD) : Loc nD τ sig := (SparseCore.T d).loc main_v15_2

theorem div_i : 32 ∣ S128x128.size 0 := ⟨4, rfl⟩
theorem div_o : 32 ∣ S16384x128.size 0 := ⟨512, rfl⟩
/-- The rows of an array of indices that are tile `w`'s, -/
abbrev iPart (w : Fin 32) : Finset S128x128.Idx := (Rect.part (s := S128x128) (a₀ := 0) div_i w).set
/-- the rows of a result, -/
abbrev oPart (w : Fin 32) : Finset S16384x128.Idx := (Rect.part (s := S16384x128) (a₀ := 0) div_o w).set
/-- its share of a table. -/
abbrev tq (w : Fin 32) : PosShare TreeShare := pieceOf fullShare 32 (by decide) w

/-- Tile `s` of SparseCore `c` is tile `2s + c` of the 32. -/
abbrev wid (c : Fin 2) (s : Fin 16) : Fin 32 := finProdFinEquiv (s, c)

/-! ## What the handshakes carry -/

variable (X : Dev nD → Ops F)

/-- What tile `w` takes and brings back unchanged: its rows of the indices, its shares of the tables. -/
abbrev reads (d : Dev nD) (w : Fin 32) : sProp 𝕄 :=
  iprop((i0Loc d ↦[iPart w]{fullShare} (X d).i0) ∗ (i1Loc d ↦[iPart w]{fullShare} (X d).i1) ∗ (i2Loc d ↦[iPart w]{fullShare} (X d).i2)
    ∗ (t0Loc d ↦{tq w} (X d).t0) ∗ (t1Loc d ↦{tq w} (X d).t1) ∗ (t2Loc d ↦{tq w} (X d).t2))
/-- Its rows of the results, as it takes them, -/
abbrev before (d : Dev nD) (w : Fin 32) : sProp 𝕄 :=
  iprop((o0Loc d ↦[oPart w]{fullShare} (X d).o0) ∗ (o1Loc d ↦[oPart w]{fullShare} (X d).o1) ∗ (o2Loc d ↦[oPart w]{fullShare} (X d).o2))
/-- and as it brings them back. -/
abbrev after (d : Dev nD) (w : Fin 32) : sProp 𝕄 :=
  iprop((o0Loc d ↦[oPart w]{fullShare} (X d).r0) ∗ (o1Loc d ↦[oPart w]{fullShare} (X d).r1) ∗ (o2Loc d ↦[oPart w]{fullShare} (X d).r2))

/-- The call takes, for each SparseCore, what its sixteen tiles take, and brings back what they bring back. -/
def P : (K (F := F)).Pay (nD := nD) (Val := Elt F) (Name := ℕ) (U := UU) where
  st := fun q d c => match q with
    | 0 => bigSep Finset.univ fun s : Fin 16 => iprop(reads X d (wid (Fin.cast nCore_zero c) s) ∗ before X d (wid (Fin.cast nCore_zero c) s))
  dn := fun q d c => match q with
    | 0 => bigSep Finset.univ fun s : Fin 16 => iprop(reads X d (wid (Fin.cast nCore_zero c) s) ∗ after X d (wid (Fin.cast nCore_zero c) s))
  go := fun q d c i => match q with
    | 0 => iprop(reads X d (wid (Fin.cast nCore_zero c) (Fin.cast nSub_zero i)) ∗ before X d (wid (Fin.cast nCore_zero c) (Fin.cast nSub_zero i)))
  td := fun q d c i => match q with
    | 0 => iprop(reads X d (wid (Fin.cast nCore_zero c) (Fin.cast nSub_zero i)) ∗ after X d (wid (Fin.cast nCore_zero c) (Fin.cast nSub_zero i)))
  x := fun _ _ => iprop(emp)

instance P_storable : (P X).IsStorable where
  st q d c := match q with
    | 0 => (inferInstance : BI.Storable (upEmb : UEmb _ 𝕄)
        (bigSep Finset.univ fun s : Fin 16 => iprop(reads X d (wid (Fin.cast nCore_zero c) s) ∗ before X d (wid (Fin.cast nCore_zero c) s))))
  dn q d c := match q with
    | 0 => (inferInstance : BI.Storable (upEmb : UEmb _ 𝕄)
        (bigSep Finset.univ fun s : Fin 16 => iprop(reads X d (wid (Fin.cast nCore_zero c) s) ∗ after X d (wid (Fin.cast nCore_zero c) s))))
  go q d c i := match q with
    | 0 => (inferInstance : BI.Storable (upEmb : UEmb _ 𝕄)
        iprop(reads X d (wid (Fin.cast nCore_zero c) (Fin.cast nSub_zero i)) ∗ before X d (wid (Fin.cast nCore_zero c) (Fin.cast nSub_zero i))))
  td q d c i := match q with
    | 0 => (inferInstance : BI.Storable (upEmb : UEmb _ 𝕄)
        iprop(reads X d (wid (Fin.cast nCore_zero c) (Fin.cast nSub_zero i)) ∗ after X d (wid (Fin.cast nCore_zero c) (Fin.cast nSub_zero i))))

/-- A SparseCore's sequencer hands its tiles just what it was handed. -/
theorem vecSplit : (K (F := F)).VecSplit' (P X) 0 := by
  intro d c
  have tasks : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun s : Fin 16 => iprop(reads X d (wid (Fin.cast nCore_zero c) s) ∗ before X d (wid (Fin.cast nCore_zero c) s)))
    ⊢ |={Set.univ}=> iprop(
      (bigSep Finset.univ fun i : Fin ((K (F := F)).nSub 0) =>
        iprop(reads X d (wid (Fin.cast nCore_zero c) (Fin.cast nSub_zero i)) ∗ before X d (wid (Fin.cast nCore_zero c) (Fin.cast nSub_zero i))))
      ∗ ((bigSep Finset.univ fun i : Fin ((K (F := F)).nSub 0) =>
          iprop(reads X d (wid (Fin.cast nCore_zero c) (Fin.cast nSub_zero i)) ∗ after X d (wid (Fin.cast nCore_zero c) (Fin.cast nSub_zero i))))
        -∗ bigSep Finset.univ fun s : Fin 16 => iprop(reads X d (wid (Fin.cast nCore_zero c) s) ∗ after X d (wid (Fin.cast nCore_zero c) s))))
  rw [tasks fun s => iprop(reads X d (wid (Fin.cast nCore_zero c) s) ∗ before X d (wid (Fin.cast nCore_zero c) s)),
    tasks fun s => iprop(reads X d (wid (Fin.cast nCore_zero c) s) ∗ after X d (wid (Fin.cast nCore_zero c) s))]
  iintro H
  imodintro
  isplitl [H]; · iexact H
  iintro H
  iexact H

/-! ## All the tiles together -/

theorem iPart_disjoint : ∀ i ∈ (Finset.univ : Finset (Fin 32)), ∀ j ∈ (Finset.univ : Finset (Fin 32)), i ≠ j → Disjoint (iPart i) (iPart j) :=
  fun _ _ _ _ h => Rect.part_disjoint div_i h
theorem oPart_disjoint : ∀ i ∈ (Finset.univ : Finset (Fin 32)), ∀ j ∈ (Finset.univ : Finset (Fin 32)), i ≠ j → Disjoint (oPart i) (oPart j) :=
  fun _ _ _ _ h => Rect.part_disjoint div_o h

theorem iPart_cover : (Finset.univ : Finset (Fin 32)).biUnion iPart = Finset.univ := Rect.biUnion_part div_i
theorem oPart_cover : (Finset.univ : Finset (Fin 32)).biUnion oPart = Finset.univ := Rect.biUnion_part div_o

/-- A family over the tiles of every SparseCore is a family over the 32. -/
theorem bigSep_wid (Φ : Fin 32 → sProp 𝕄) :
    (bigSep Finset.univ fun c : Fin 2 => bigSep Finset.univ fun s : Fin 16 => Φ (wid c s)) = bigSep Finset.univ Φ := by
  rw [BI.bigSep_univ_equiv ((Equiv.prodComm (Fin 2) (Fin 16)).trans finProdFinEquiv) Φ, BI.bigSep_univ_prod]
  rfl

/-- An array is its parts. -/
theorem parts_eq {ℓ : Loc nD τ sig} (J : Fin 32 → Finset (Idx ℓ)) (hd : ∀ i ∈ Finset.univ, ∀ j ∈ Finset.univ, i ≠ j → Disjoint (J i) (J j))
    (hc : Finset.univ.biUnion J = Finset.univ) (f : Buf (Elt F) ℓ) :
    (bigSep Finset.univ fun w => ℓ ↦[J w]{fullShare} f : sProp 𝕄) = ℓ ↦{fullShare} f := by
  rw [← pointsTo_biUnion Finset.univ J hd, hc]

/-- The arrays the call reads, whole; -/
abbrev readsAll (d : Dev nD) : sProp 𝕄 :=
  iprop((i0Loc d ↦{fullShare} (X d).i0) ∗ (i1Loc d ↦{fullShare} (X d).i1) ∗ (i2Loc d ↦{fullShare} (X d).i2)
    ∗ (t0Loc d ↦{fullShare} (X d).t0) ∗ (t1Loc d ↦{fullShare} (X d).t1) ∗ (t2Loc d ↦{fullShare} (X d).t2))
/-- the results before the call, -/
abbrev beforeAll (d : Dev nD) : sProp 𝕄 :=
  iprop((o0Loc d ↦{fullShare} (X d).o0) ∗ (o1Loc d ↦{fullShare} (X d).o1) ∗ (o2Loc d ↦{fullShare} (X d).o2))
/-- and after it. -/
abbrev afterAll (d : Dev nD) : sProp 𝕄 :=
  iprop((o0Loc d ↦{fullShare} (X d).r0) ∗ (o1Loc d ↦{fullShare} (X d).r1) ∗ (o2Loc d ↦{fullShare} (X d).r2))

theorem reads_all (d : Dev nD) : (bigSep Finset.univ fun w : Fin 32 => reads X d w) = readsAll X d := by
  unfold reads
  simp only [BI.bigSep_sep']
  rw [parts_eq (ℓ := i0Loc d) iPart iPart_disjoint iPart_cover, parts_eq (ℓ := i1Loc d) iPart iPart_disjoint iPart_cover,
    parts_eq (ℓ := i2Loc d) iPart iPart_disjoint iPart_cover]
  rw [← pointsTo_piecesOf (ℓ := t0Loc d) Finset.univ (X d).t0 _ fullShare, ← pointsTo_piecesOf (ℓ := t1Loc d) Finset.univ (X d).t1 _ fullShare,
    ← pointsTo_piecesOf (ℓ := t2Loc d) Finset.univ (X d).t2 _ fullShare]

theorem before_all (d : Dev nD) : (bigSep Finset.univ fun w : Fin 32 => before X d w) = beforeAll X d := by
  unfold before
  simp only [BI.bigSep_sep']
  rw [parts_eq (ℓ := o0Loc d) oPart oPart_disjoint oPart_cover, parts_eq (ℓ := o1Loc d) oPart oPart_disjoint oPart_cover,
    parts_eq (ℓ := o2Loc d) oPart oPart_disjoint oPart_cover]

theorem after_all (d : Dev nD) : (bigSep Finset.univ fun w : Fin 32 => after X d w) = afterAll X d := by
  unfold after
  simp only [BI.bigSep_sep']
  rw [parts_eq (ℓ := o0Loc d) oPart oPart_disjoint oPart_cover, parts_eq (ℓ := o1Loc d) oPart oPart_disjoint oPart_cover,
    parts_eq (ℓ := o2Loc d) oPart oPart_disjoint oPart_cover]

/-- What the call takes, -/
theorem st_all (d : Dev nD) : (bigSep Finset.univ fun c => (P X).st 0 d c) = iprop(readsAll X d ∗ beforeAll X d) := by
  rw [← reads_all X d, ← before_all X d]
  refine Eq.trans ?_ (BI.bigSep_sep Finset.univ (fun w => reads X d w) fun w => before X d w)
  rw [← bigSep_wid]
  exact (BI.bigSep_univ_equiv (finCongr nCore_zero) _).symm
/-- and what it brings back. -/
theorem dn_all (d : Dev nD) : (bigSep Finset.univ fun c => (P X).dn 0 d c) = iprop(readsAll X d ∗ afterAll X d) := by
  rw [← reads_all X d, ← after_all X d]
  refine Eq.trans ?_ (BI.bigSep_sep Finset.univ (fun w => reads X d w) fun w => after X d w)
  rw [← bigSep_wid]
  exact (BI.bigSep_univ_equiv (finCongr nCore_zero) _).symm

end Cert.Proof.Setup

end
-- ==== Proof.Body.lean ====
/-
  ONE GRID POINT OF THE PERCEPTRON KERNEL, RUN.

  `blockOut` is the block of 2048 scores a grid point computes from the three blocks of gathered rows and the weights.
  `body_run`: from the thirteen input buffers at any contents the kernel's body ends with them unchanged and the output
  buffer holding `blockOut` of them.
-/
module

public import proofs.«01_k».proof.Proof.Setup
public import proofs.«01_k».proof.Proof.Gen.KernelIdeal.Skeleton
public import Idealize.ShloMosaic.Lib.Pipeline.Value
public import Idealize.ShloMosaic.Lib.Tactic

@[expose] public section

noncomputable section

namespace Cert.Proof.Body

open Cert.KernelIdeal Cert.KernelIdeal.Gen
open Idealize.ShloMosaic Idealize.ShloMosaic.TcCoe Idealize.ShloMosaic.Tactic
open Idealize.ShloMosaic.SparseCore.Cfg (HIx)
open Idealize.SL
open Idealize.SL.BI (sProp bigSep)
open scoped Idealize.SL.BI
open Idealize.SL.BI.BIBase Idealize.SL.BI.Laws Idealize.SL.Sem Idealize.SL.ProofMode
open Idealize.SL.RA
open Cert.Proof.Setup

variable {F : FTy → Type} [FloatOps F]

local notation "𝕄" => MT nD τ sig (HIx 1) (Elt F) ℕ UU ℕ

/-- The buffer of memref `M` on core `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The first 64 columns of a block of gathered rows. -/
abbrev cols (x : Vec F S2048x128 .f32) : Vec F S2048x64 .f32 :=
  View.ld x (Rect.unit (s := S2048x128) ![0, 0] S2048x64.size inb_S2048x128_S2048x64_0_0)

/-- A block of scores from the blocks of gathered rows `x0 x1 x2` and the weights. -/
def blockOut (x0 : Vec F S2048x128 .f32) (x1 : Vec F S2048x128 .f32) (x2 : Vec F S2048x128 .f32) (x3 : Vec F S64x512 .f32) (x4 : Vec F S64x512 .f32) (x5 : Vec F S64x512 .f32) (x6 : Vec F S1x512 .f32) (x7 : Vec F S512x256 .f32) (x8 : Vec F S1x256 .f32) (x9 : Vec F S256x128 .f32) (x10 : Vec F S1x128 .f32) (x11 : Vec F S1x128 .f32) (x12 : Vec F S1x1 .f32) : Vec F S2048x1 .f32 :=
  k1_pay1 (k1_pay2 (cols x0) x3 (cols x1) x4 (cols x2) x5 x6 x7 x8 x9) x10 x11 x12

theorem hz2 : (![0, 0] : Fin 2 → Nat) = fun _ => 0 := funext fun a => by fin_cases a <;> rfl

theorem body_run (c : Dev nD) (i : grid1.Coords) (M0 : Memref sig .tc .vmem S2048x128 .f32) (h0 : M0.IsWhole) (M1 : Memref sig .tc .vmem S2048x128 .f32) (h1 : M1.IsWhole) (M2 : Memref sig .tc .vmem S2048x128 .f32) (h2 : M2.IsWhole) (M3 : Memref sig .tc .vmem S64x512 .f32) (h3 : M3.IsWhole) (M4 : Memref sig .tc .vmem S64x512 .f32) (h4 : M4.IsWhole) (M5 : Memref sig .tc .vmem S64x512 .f32) (h5 : M5.IsWhole) (M6 : Memref sig .tc .vmem S1x512 .f32) (h6 : M6.IsWhole) (M7 : Memref sig .tc .vmem S512x256 .f32) (h7 : M7.IsWhole) (M8 : Memref sig .tc .vmem S1x256 .f32) (h8 : M8.IsWhole) (M9 : Memref sig .tc .vmem S256x128 .f32) (h9 : M9.IsWhole) (M10 : Memref sig .tc .vmem S1x128 .f32) (h10 : M10.IsWhole) (M11 : Memref sig .tc .vmem S1x128 .f32) (h11 : M11.IsWhole) (M12 : Memref sig .tc .vmem S1x1 .f32) (h12 : M12.IsWhole) (M13 : Memref sig .tc .vmem S2048x1 .f32) (h13 : M13.IsWhole)
    (x0 : Vec F S2048x128 .f32) (x1 : Vec F S2048x128 .f32) (x2 : Vec F S2048x128 .f32) (x3 : Vec F S64x512 .f32) (x4 : Vec F S64x512 .f32) (x5 : Vec F S64x512 .f32) (x6 : Vec F S1x512 .f32) (x7 : Vec F S512x256 .f32) (x8 : Vec F S1x256 .f32) (x9 : Vec F S256x128 .f32) (x10 : Vec F S1x128 .f32) (x11 : Vec F S1x128 .f32) (x12 : Vec F S1x1 .f32) (f13 : Buf (Elt F) (M13.view.loc (c : Thread nD τ))) (E : Set ℕ) (Q : PUnit → sProp 𝕄) :
    iprop(pt c M0 (h0.unread x0) ∗ pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread x7) ∗ pt c M8 (h8.unread x8) ∗ pt c M9 (h9.unread x9) ∗ pt c M10 (h10.unread x10) ∗ pt c M11 (h11.unread x11) ∗ pt c M12 (h12.unread x12) ∗ pt c M13 f13
        ∗ (iprop(pt c M0 (h0.unread x0) ∗ pt c M1 (h1.unread x1) ∗ pt c M2 (h2.unread x2) ∗ pt c M3 (h3.unread x3) ∗ pt c M4 (h4.unread x4) ∗ pt c M5 (h5.unread x5) ∗ pt c M6 (h6.unread x6) ∗ pt c M7 (h7.unread x7) ∗ pt c M8 (h8.unread x8) ∗ pt c M9 (h9.unread x9) ∗ pt c M10 (h10.unread x10) ∗ pt c M11 (h11.unread x11) ∗ pt c M12 (h12.unread x12) ∗ pt c M13 (h13.unread (blockOut x0 x1 x2 x3 x4 x5 x6 x7 x8 x9 x10 x11 x12))) -∗ Q ⟨⟩))
      ⊢ wp frame (wpE (defs₀ (F := F)) Variants.none c none) E (cc1__mlp_body i M0 h0 M1 h1 M2 h2 M3 h3 M4 h4 M5 h5 M6 h6 M7 h7 M8 h8 M9 h9 M10 h10 M11 h11 M12 h12 M13 h13) Q := by
  iintro ⟨H0, H1, H2, H3, H4, H5, H6, H7, H8, H9, H10, H11, H12, H13, Hk⟩
  rw [cc1__mlp_body_eq_skeleton]
  unfold cc1__mlp_body_skel
  rw [k1_part1_eq_skeleton]
  unfold k1_part1_skel
  sl_exec!
  sl_step
  rw [h13.eq_unread (f := M13.view.writes (Elt F) M13.view.junk _) (X := blockOut x0 x1 x2 x3 x4 x5 x6 x7 x8 x9 x10 x11 x12)]
  · iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [View.read_writes_junk_eq_canon]
    unfold body_run.sl.H13_1
    rw [View.canon_unit_zero hz2]
    repeat rw [View.readAt_eq_ld]
    repeat rw [Memref.IsWhole.read_unread]
    repeat rw [View.ld_unit_zero hz2]
    rfl

end Cert.Proof.Body

end
-- ==== Proof.Region.lean ====
/-
  THE PERCEPTRON KERNEL AS A REGION OF @main.

  `dat V`: the proof data of the region entered from buffers at `V`. Grid point `t` finds its block of each operand
  (`iblk`), leaves the operands' blocks as they were and the block of scores `blockOut` of them. `region_wp`: from every
  buffer of a set at `V`, the region's ghost state and nothing owed, the call returns with the set at
  `Pipeline.afterRegion`.
-/
module

public import proofs.«01_k».proof.Proof.Body
public import proofs.«01_k».proof.Proof.Gen.KernelIdeal.Launch
public import proofs.«01_k».proof.Proof.Gen.KernelIdeal.Points
public import Idealize.ShloMosaic.Lib.Pipeline.RegionArraysS

@[expose] public section

noncomputable section

namespace Cert.Proof.Region

open Cert.KernelIdeal Cert.KernelIdeal.Gen
open Idealize.ShloMosaic Idealize.ShloMosaic.TcCoe Idealize.ShloMosaic.Tactic
open Idealize.ShloMosaic.SparseCore.Cfg (HIx)
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Pipeline (Dat BodyObligation)
open Cert.Proof.Setup Cert.Proof.Body

variable {F : FTy → Type} [FloatOps F]

local notation "𝕄" => MT nD τ sig (HIx 1) (Elt F) ℕ UU ℕ

variable (V : Dev nD → Valuation τ sig (Elt F))

/-- Operand `w`'s block at point `t`, read off the array as the region finds it. -/
abbrev iblk (c : Dev nD) (w : Fin 14) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The block of scores point `t` computes. -/
abbrev oblk (c : Dev nD) (t : Fin cfg1.N) : Vec F S2048x1 .f32 :=
  blockOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)

/-- What the body leaves of window `w`'s block at point `t`: an operand's as it was, the scores' as computed. -/
def left (c : Dev nD) (t : Fin cfg1.N) : (w : Fin 14) → (cfg1.win w).block.Idx → Elt F (cfg1.win w).elt
  | 0 => (iblk V c 0 t : Vec F S2048x128 .f32)
  | 1 => (iblk V c 1 t : Vec F S2048x128 .f32)
  | 2 => (iblk V c 2 t : Vec F S2048x128 .f32)
  | 3 => (iblk V c 3 t : Vec F S64x512 .f32)
  | 4 => (iblk V c 4 t : Vec F S64x512 .f32)
  | 5 => (iblk V c 5 t : Vec F S64x512 .f32)
  | 6 => (iblk V c 6 t : Vec F S1x512 .f32)
  | 7 => (iblk V c 7 t : Vec F S512x256 .f32)
  | 8 => (iblk V c 8 t : Vec F S1x256 .f32)
  | 9 => (iblk V c 9 t : Vec F S256x128 .f32)
  | 10 => (iblk V c 10 t : Vec F S1x128 .f32)
  | 11 => (iblk V c 11 t : Vec F S1x128 .f32)
  | 12 => (iblk V c 12 t : Vec F S1x1 .f32)
  | 13 => oblk V c t

/-- The region's proof data, entered from buffers at `V`. -/
def dat (c : Dev nD) : Dat τ (Elt F) (HIx 1) ℕ UU ℕ cfg1 c where
  A w := V c (Proc.devRef .tc (Pipeline.arrRef spec1 w))
  after w t := left V c t w
  Φ _ := BI.emp
  q _ := fullShare
  owed _ := 0

/-- No pipeline prefetches a table. -/
abbrev adm : (p : Fin 1) → (pcfgs (F := F) p).Adm := fun q => (cfgs q).toPCfg_adm

/-- The same for every pipeline of the program: there is one. -/
def dats : (p : Fin 1) → (c : Dev nD) → Dat τ (Elt F) (HIx 1) ℕ UU ℕ (Pipeline.pin (pcfgs (F := F)) adm p) c
  | ⟨0, _⟩ => fun c => dat V c

theorem after_0 (c : Dev nD) (t : Fin cfg1.N) : (dat V c).after 0 t = iblk V c 0 t := rfl
theorem before_0 (c : Dev nD) (t : Fin cfg1.N) (d) : (dat V c).before 0 t d = iblk V c 0 t :=
  ((dat V c).before_in_eq_fetched 0 rfl (fun _ => rfl) (fun _ _ _ => rfl) (fun t => by rw [after_0]; rfl) t d).trans rfl
theorem after_1 (c : Dev nD) (t : Fin cfg1.N) : (dat V c).after 1 t = iblk V c 1 t := rfl
theorem before_1 (c : Dev nD) (t : Fin cfg1.N) (d) : (dat V c).before 1 t d = iblk V c 1 t :=
  ((dat V c).before_in_eq_fetched 1 rfl (fun _ => rfl) (fun _ _ _ => rfl) (fun t => by rw [after_1]; rfl) t d).trans rfl
theorem after_2 (c : Dev nD) (t : Fin cfg1.N) : (dat V c).after 2 t = iblk V c 2 t := rfl
theorem before_2 (c : Dev nD) (t : Fin cfg1.N) (d) : (dat V c).before 2 t d = iblk V c 2 t :=
  ((dat V c).before_in_eq_fetched 2 rfl (fun _ => rfl) (fun _ _ _ => rfl) (fun t => by rw [after_2]; rfl) t d).trans rfl
theorem after_3 (c : Dev nD) (t : Fin cfg1.N) : (dat V c).after 3 t = iblk V c 3 t := rfl
theorem before_3 (c : Dev nD) (t : Fin cfg1.N) (d) : (dat V c).before 3 t d = iblk V c 3 t :=
  ((dat V c).before_in_eq_fetched 3 rfl (fun _ => rfl) (fun _ _ _ => rfl) (fun t => by rw [after_3]; rfl) t d).trans rfl
theorem after_4 (c : Dev nD) (t : Fin cfg1.N) : (dat V c).after 4 t = iblk V c 4 t := rfl
theorem before_4 (c : Dev nD) (t : Fin cfg1.N) (d) : (dat V c).before 4 t d = iblk V c 4 t :=
  ((dat V c).before_in_eq_fetched 4 rfl (fun _ => rfl) (fun _ _ _ => rfl) (fun t => by rw [after_4]; rfl) t d).trans rfl
theorem after_5 (c : Dev nD) (t : Fin cfg1.N) : (dat V c).after 5 t = iblk V c 5 t := rfl
theorem before_5 (c : Dev nD) (t : Fin cfg1.N) (d) : (dat V c).before 5 t d = iblk V c 5 t :=
  ((dat V c).before_in_eq_fetched 5 rfl (fun _ => rfl) (fun _ _ _ => rfl) (fun t => by rw [after_5]; rfl) t d).trans rfl
theorem after_6 (c : Dev nD) (t : Fin cfg1.N) : (dat V c).after 6 t = iblk V c 6 t := rfl
theorem before_6 (c : Dev nD) (t : Fin cfg1.N) (d) : (dat V c).before 6 t d = iblk V c 6 t :=
  ((dat V c).before_in_eq_fetched 6 rfl (fun _ => rfl) (fun _ _ _ => rfl) (fun t => by rw [after_6]; rfl) t d).trans rfl
theorem after_7 (c : Dev nD) (t : Fin cfg1.N) : (dat V c).after 7 t = iblk V c 7 t := rfl
theorem before_7 (c : Dev nD) (t : Fin cfg1.N) (d) : (dat V c).before 7 t d = iblk V c 7 t :=
  ((dat V c).before_in_eq_fetched 7 rfl (fun _ => rfl) (fun _ _ _ => rfl) (fun t => by rw [after_7]; rfl) t d).trans rfl
theorem after_8 (c : Dev nD) (t : Fin cfg1.N) : (dat V c).after 8 t = iblk V c 8 t := rfl
theorem before_8 (c : Dev nD) (t : Fin cfg1.N) (d) : (dat V c).before 8 t d = iblk V c 8 t :=
  ((dat V c).before_in_eq_fetched 8 rfl (fun _ => rfl) (fun _ _ _ => rfl) (fun t => by rw [after_8]; rfl) t d).trans rfl
theorem after_9 (c : Dev nD) (t : Fin cfg1.N) : (dat V c).after 9 t = iblk V c 9 t := rfl
theorem before_9 (c : Dev nD) (t : Fin cfg1.N) (d) : (dat V c).before 9 t d = iblk V c 9 t :=
  ((dat V c).before_in_eq_fetched 9 rfl (fun _ => rfl) (fun _ _ _ => rfl) (fun t => by rw [after_9]; rfl) t d).trans rfl
theorem after_10 (c : Dev nD) (t : Fin cfg1.N) : (dat V c).after 10 t = iblk V c 10 t := rfl
theorem before_10 (c : Dev nD) (t : Fin cfg1.N) (d) : (dat V c).before 10 t d = iblk V c 10 t :=
  ((dat V c).before_in_eq_fetched 10 rfl (fun _ => rfl) (fun _ _ _ => rfl) (fun t => by rw [after_10]; rfl) t d).trans rfl
theorem after_11 (c : Dev nD) (t : Fin cfg1.N) : (dat V c).after 11 t = iblk V c 11 t := rfl
theorem before_11 (c : Dev nD) (t : Fin cfg1.N) (d) : (dat V c).before 11 t d = iblk V c 11 t :=
  ((dat V c).before_in_eq_fetched 11 rfl (fun _ => rfl) (fun _ _ _ => rfl) (fun t => by rw [after_11]; rfl) t d).trans rfl
theorem after_12 (c : Dev nD) (t : Fin cfg1.N) : (dat V c).after 12 t = iblk V c 12 t := rfl
theorem before_12 (c : Dev nD) (t : Fin cfg1.N) (d) : (dat V c).before 12 t d = iblk V c 12 t :=
  ((dat V c).before_in_eq_fetched 12 rfl (fun _ => rfl) (fun _ _ _ => rfl) (fun t => by rw [after_12]; rfl) t d).trans rfl
theorem after_13 (c : Dev nD) (t : Fin cfg1.N) : (dat V c).after 13 t = oblk V c t := rfl

/-- What owning a whole memref at `X` comes to: its buffer at some contents that read as `X`. -/
theorem owns_isWhole (c : Dev nD) {sp : Space} {S : Shape} {e : EltTy} {M : Memref sig .tc sp S e} (hw : M.IsWhole) (X : S.Idx → Elt F e) :
    (owns (c.tc : Thread nD τ) M fullShare X : sProp 𝕄) = iprop(∃ f, ⌜M.view.read (Elt F) f = X⌝ ∗ pt c M f) := by
  obtain ⟨b, hsp, hsh, he, h⟩ := hw
  subst hsp hsh he
  cases h
  unfold owns pt
  simp only [Memref.view_whole, View.set_whole]

theorem owns_open (c : Dev nD) {sp : Space} {S : Shape} {e : EltTy} {M : Memref sig .tc sp S e} (hw : M.IsWhole) (X : S.Idx → Elt F e) :
    (owns (c.tc : Thread nD τ) M fullShare X : sProp 𝕄) ⊢ pt c M (hw.unread X) := by
  rw [owns_isWhole c hw]
  iintro ⟨%f, %hf, H⟩
  rw [hw.eq_unread hf]
  iexact H

theorem owns_close (c : Dev nD) {sp : Space} {S : Shape} {e : EltTy} {M : Memref sig .tc sp S e} (hw : M.IsWhole) (X : S.Idx → Elt F e) :
    (pt c M (hw.unread X) : sProp 𝕄) ⊢ owns (c.tc : Thread nD τ) M fullShare X := by
  rw [owns_isWhole c hw]
  iintro H
  iexists hw.unread X
  isplitr
  · ipureintro; exact hw.read_unread X
  iexact H

/-- One call of the body over owned memrefs, whatever `Φ` and `O` ride along. -/
theorem body_step (c : Dev nD) (i : grid1.Coords) (M0 : Memref sig .tc .vmem S2048x128 .f32) (h0 : M0.IsWhole) (M1 : Memref sig .tc .vmem S2048x128 .f32) (h1 : M1.IsWhole) (M2 : Memref sig .tc .vmem S2048x128 .f32) (h2 : M2.IsWhole) (M3 : Memref sig .tc .vmem S64x512 .f32) (h3 : M3.IsWhole) (M4 : Memref sig .tc .vmem S64x512 .f32) (h4 : M4.IsWhole) (M5 : Memref sig .tc .vmem S64x512 .f32) (h5 : M5.IsWhole) (M6 : Memref sig .tc .vmem S1x512 .f32) (h6 : M6.IsWhole) (M7 : Memref sig .tc .vmem S512x256 .f32) (h7 : M7.IsWhole) (M8 : Memref sig .tc .vmem S1x256 .f32) (h8 : M8.IsWhole) (M9 : Memref sig .tc .vmem S256x128 .f32) (h9 : M9.IsWhole) (M10 : Memref sig .tc .vmem S1x128 .f32) (h10 : M10.IsWhole) (M11 : Memref sig .tc .vmem S1x128 .f32) (h11 : M11.IsWhole) (M12 : Memref sig .tc .vmem S1x1 .f32) (h12 : M12.IsWhole) (M13 : Memref sig .tc .vmem S2048x1 .f32) (h13 : M13.IsWhole)
    (x0 : Vec F S2048x128 .f32) (x1 : Vec F S2048x128 .f32) (x2 : Vec F S2048x128 .f32) (x3 : Vec F S64x512 .f32) (x4 : Vec F S64x512 .f32) (x5 : Vec F S64x512 .f32) (x6 : Vec F S1x512 .f32) (x7 : Vec F S512x256 .f32) (x8 : Vec F S1x256 .f32) (x9 : Vec F S256x128 .f32) (x10 : Vec F S1x128 .f32) (x11 : Vec F S1x128 .f32) (x12 : Vec F S1x1 .f32) (Φ O : sProp 𝕄) :
    iprop(Φ ∗ O ∗ owns (c.tc : Thread nD τ) M0 fullShare x0 ∗ owns (c.tc : Thread nD τ) M1 fullShare x1 ∗ owns (c.tc : Thread nD τ) M2 fullShare x2 ∗ owns (c.tc : Thread nD τ) M3 fullShare x3 ∗ owns (c.tc : Thread nD τ) M4 fullShare x4 ∗ owns (c.tc : Thread nD τ) M5 fullShare x5 ∗ owns (c.tc : Thread nD τ) M6 fullShare x6 ∗ owns (c.tc : Thread nD τ) M7 fullShare x7 ∗ owns (c.tc : Thread nD τ) M8 fullShare x8 ∗ owns (c.tc : Thread nD τ) M9 fullShare x9 ∗ owns (c.tc : Thread nD τ) M10 fullShare x10 ∗ owns (c.tc : Thread nD τ) M11 fullShare x11 ∗ owns (c.tc : Thread nD τ) M12 fullShare x12 ∗ ∃ d, owns (c.tc : Thread nD τ) M13 fullShare d)
      ⊢ wp frame (wpE (defs₀ (F := F)) Variants.none c none) Set.univ (cc1__mlp_body i M0 h0 M1 h1 M2 h2 M3 h3 M4 h4 M5 h5 M6 h6 M7 h7 M8 h8 M9 h9 M10 h10 M11 h11 M12 h12 M13 h13) (fun _ =>
        iprop(Φ ∗ O ∗ owns (c.tc : Thread nD τ) M0 fullShare x0 ∗ owns (c.tc : Thread nD τ) M1 fullShare x1 ∗ owns (c.tc : Thread nD τ) M2 fullShare x2 ∗ owns (c.tc : Thread nD τ) M3 fullShare x3 ∗ owns (c.tc : Thread nD τ) M4 fullShare x4 ∗ owns (c.tc : Thread nD τ) M5 fullShare x5 ∗ owns (c.tc : Thread nD τ) M6 fullShare x6 ∗ owns (c.tc : Thread nD τ) M7 fullShare x7 ∗ owns (c.tc : Thread nD τ) M8 fullShare x8 ∗ owns (c.tc : Thread nD τ) M9 fullShare x9 ∗ owns (c.tc : Thread nD τ) M10 fullShare x10 ∗ owns (c.tc : Thread nD τ) M11 fullShare x11 ∗ owns (c.tc : Thread nD τ) M12 fullShare x12 ∗ owns (c.tc : Thread nD τ) M13 fullShare (blockOut x0 x1 x2 x3 x4 x5 x6 x7 x8 x9 x10 x11 x12))) := by
  iintro ⟨HΦ, HO, H0, H1, H2, H3, H4, H5, H6, H7, H8, H9, H10, H11, H12, ⟨%d, H13⟩⟩
  ihave H0 := (owns_open c h0 x0) $$ H0
  ihave H1 := (owns_open c h1 x1) $$ H1
  ihave H2 := (owns_open c h2 x2) $$ H2
  ihave H3 := (owns_open c h3 x3) $$ H3
  ihave H4 := (owns_open c h4 x4) $$ H4
  ihave H5 := (owns_open c h5 x5) $$ H5
  ihave H6 := (owns_open c h6 x6) $$ H6
  ihave H7 := (owns_open c h7 x7) $$ H7
  ihave H8 := (owns_open c h8 x8) $$ H8
  ihave H9 := (owns_open c h9 x9) $$ H9
  ihave H10 := (owns_open c h10 x10) $$ H10
  ihave H11 := (owns_open c h11 x11) $$ H11
  ihave H12 := (owns_open c h12 x12) $$ H12
  ihave H13 := (owns_open c h13 d) $$ H13
  iapply (body_run c i M0 h0 M1 h1 M2 h2 M3 h3 M4 h4 M5 h5 M6 h6 M7 h7 M8 h8 M9 h9 M10 h10 M11 h11 M12 h12 M13 h13 x0 x1 x2 x3 x4 x5 x6 x7 x8 x9 x10 x11 x12 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [HO]; · iexact HO
  isplitl [H0]; · iapply (owns_close c h0 _); iexact H0
  isplitl [H1]; · iapply (owns_close c h1 _); iexact H1
  isplitl [H2]; · iapply (owns_close c h2 _); iexact H2
  isplitl [H3]; · iapply (owns_close c h3 _); iexact H3
  isplitl [H4]; · iapply (owns_close c h4 _); iexact H4
  isplitl [H5]; · iapply (owns_close c h5 _); iexact H5
  isplitl [H6]; · iapply (owns_close c h6 _); iexact H6
  isplitl [H7]; · iapply (owns_close c h7 _); iexact H7
  isplitl [H8]; · iapply (owns_close c h8 _); iexact H8
  isplitl [H9]; · iapply (owns_close c h9 _); iexact H9
  isplitl [H10]; · iapply (owns_close c h10 _); iexact H10
  isplitl [H11]; · iapply (owns_close c h11 _); iexact H11
  isplitl [H12]; · iapply (owns_close c h12 _); iexact H12
  iapply (owns_close c h13 _); iexact H13

/-- The library's body obligation: `body_step` at the staging buffers of point `t`. -/
theorem body_obligation (c : Dev nD) : BodyObligation (dat V c) (defs₀ (F := F)) 𝒱₀ none Set.univ := fun t => by
  rw [bigSep_W1, bigSep_W1]
  refine Entails.trans ?_ (body_step c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13))
    (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) BI.emp ((dat V c).owesAt none t.castSucc))
  refine sep_mono .rfl (sep_mono .rfl ?_)
  refine sep_mono (exists_elim fun d => by rw [before_0]) ?_
  refine sep_mono (exists_elim fun d => by rw [before_1]) ?_
  refine sep_mono (exists_elim fun d => by rw [before_2]) ?_
  refine sep_mono (exists_elim fun d => by rw [before_3]) ?_
  refine sep_mono (exists_elim fun d => by rw [before_4]) ?_
  refine sep_mono (exists_elim fun d => by rw [before_5]) ?_
  refine sep_mono (exists_elim fun d => by rw [before_6]) ?_
  refine sep_mono (exists_elim fun d => by rw [before_7]) ?_
  refine sep_mono (exists_elim fun d => by rw [before_8]) ?_
  refine sep_mono (exists_elim fun d => by rw [before_9]) ?_
  refine sep_mono (exists_elim fun d => by rw [before_10]) ?_
  refine sep_mono (exists_elim fun d => by rw [before_11]) ?_
  refine sep_mono (exists_elim fun d => by rw [before_12]) ?_
  exact exists_elim fun d => exists_intro (Φ := fun d => owns (c.tc : Thread nD τ) ((cfg1.win 13).stage (cfg1.slots t 13)) fullShare d) _

/-! ## The region over a set of buffers -/

/-- The layout the region needs. -/
theorem kit : Pipeline.PLaunchFacts (nD := nD) (τ := τ) (pcfgs (F := F)) 0 := launch1.toP

/-- The staging cells are pairwise distinct. -/
theorem cells_inj : Function.Injective (Pipeline.cellOf (nD := nD) (τ := τ) (Pipeline.pin (pcfgs (F := F)) adm)) := kit.cellOf_inj adm

/-- The core owes nothing and every staging cell is at the lowest level. -/
theorem cut : Pipeline.LevelCut (nD := nD) (τ := τ) (pcfgs (F := F)) adm (none : HIx 1) (K (F := F)).L (K (F := F)).lev 0 (fun _ => 0) (fun _ => 0) where
  hι _ _ _ := Finset.mem_univ _
  hιb _ _ _ := Nat.le_of_eq rfl
  hD _ _ _ h := absurd h (Nat.lt_irrefl 0)

/-- The references the region's set holds. -/
theorem arrs_sub : Pipeline.arrRefs (τ := τ) (pcfgs (F := F) 0).spec ⊆ Pipeline.ucRefs τ sig :=
  Pipeline.arrRefs_sub_ucRefs _ kit.win.arr_unscoped

set_option backward.isDefEq.respectTransparency.types false in
/-- The region, over the unscoped buffers at `V`. -/
def reg : Pipeline.RegionSeg (pcfgs (F := F)) adm (dats V) (none : HIx 1) defs₀ 𝒱₀ (K (F := F)).L (K (F := F)).lev 0 :=
  Pipeline.RegionSeg.ofHeldIn (pcfgs (F := F)) adm (dats V) none defs₀ 𝒱₀ (K (F := F)).L (K (F := F)).lev 0 (fun _ => 0) (Pipeline.ucRefs τ sig)
    (fun _ => BI.emp) (fun _ => BI.emp) kit rfl (fun c => (body_obligation V c).loose) (fun _ _ => rfl) (fun _ => rfl)
    (fun c => (dats V 0 c).share_full fun _ => rfl)
    (fun c => by
      show iprop(Pipeline.scopedRest spec1 c ∗ BI.emp) ⊢ BI.emp
      rw [scopedRest1_eq]; iintro -; iempintro)
    (fun c => by
      show BI.emp ⊢ iprop(Pipeline.scopedRest spec1 c ∗ BI.emp)
      rw [scopedRest1_eq]; iintro -; isplitl <;> iempintro)
    (fun _ => 0) cut (fun _ => BI.emp) V (fun _ _ => rfl)

set_option backward.isDefEq.respectTransparency.types false in
theorem reg_pre (c : Dev nD) :
    iprop(StableHlo.held (c.tc : Thread nD τ) (Pipeline.ucRefs τ sig) (V c)
        ∗ ((∃ W, owes (c.tc : Thread nD τ) (0 : CellTallies nD τ sig (HIx 1)) W) ∗ BI.emp ∗ BI.emp)) ⊢ (reg V).pre c := by
  unfold reg
  exact Pipeline.RegionSeg.ofHeldIn_pre (pcs := pcfgs (F := F)) (a := adm) (pdats := dats V) (ι := (none : HIx 1)) (defs₀ := defs₀) (𝒱₀ := 𝒱₀)
    (L := (K (F := F)).L) (lv := (K (F := F)).lev) (p := 0) (D := fun _ => 0) (S := Pipeline.ucRefs τ sig) (X := fun _ => BI.emp) (Y := fun _ => BI.emp)
    (R := fun _ => BI.emp) (W := V) arrs_sub c

set_option backward.isDefEq.respectTransparency.types false in
theorem reg_post (c : Dev nD) :
    (reg V).post c ⊢ iprop(StableHlo.held (c.tc : Thread nD τ) (Pipeline.ucRefs τ sig) (Pipeline.afterRegion (dat V c) (V c))
        ∗ ((∃ W, owes (c.tc : Thread nD τ) (0 : CellTallies nD τ sig (HIx 1)) W) ∗ BI.emp ∗ BI.emp)) :=
  Pipeline.RegionSeg.ofHeldIn_post arrs_sub c

/-- The call of the perceptron kernel: entered from the unscoped buffers at `V c` with nothing owed, left with them at
    `Pipeline.afterRegion`. -/
theorem region_wp [∀ e, Nonempty (Elt F e)] (c : Dev nD) {α : Type} (k : PUnit → Prog (TpuEff nD τ sig (Elt F) (ΛP (F := F)) .tc) α) (Q : α → sProp 𝕄) :
    iprop((iprop(boundary (c.tc : Thread nD τ) ∗ StableHlo.held (c.tc : Thread nD τ) (Pipeline.ucRefs τ sig) (Pipeline.afterRegion (dat V c) (V c))
          ∗ ∃ W, owes (c : Thread nD τ) (0 : CellTallies nD τ sig (HIx 1)) W)
        -∗ wp frame (wpE (D (F := F)) 𝒱 (c.tc : Thread nD τ) none) Set.univ (k ⟨⟩) Q)
      ∗ boundary (c.tc : Thread nD τ) ∗ StableHlo.held (c.tc : Thread nD τ) (Pipeline.ucRefs τ sig) (V c)
      ∗ (∃ W, owes (c : Thread nD τ) (0 : CellTallies nD τ sig (HIx 1)) W)
      ∗ levAts (K (F := F)).L (K (F := F)).lev
      ∗ Pipeline.cellsGhost (Pipeline.pin (pcfgs (F := F)) adm) EP 0 c ∗ Pipeline.toksInit (Pipeline.pin (pcfgs (F := F)) adm) EP 0 c)
    ⊢ wp frame (wpE (D (F := F)) 𝒱 (c.tc : Thread nD τ) none) Set.univ (.op (.customCall (Pipeline.entry 0) ()) k) Q := by
  refine Entails.trans ?_ (Pipeline.RegionSeg.wp (pcfgs (F := F)) adm (dats V) none cells_inj EP defs₀ 𝒱₀ (K (F := F)).L (K (F := F)).lev (reg V) c none
    (fun u hu => by cases hu) k Q)
  iintro ⟨Hk, Hb, Hh, HO, HL, Hg, Ht⟩
  isplitl [Hk]
  · iintro ⟨Hb, Hp⟩
    iapply Hk
    isplitl [Hb]; · iexact Hb
    ihave Hp := (reg_post V c) $$ Hp
    icases Hp with ⟨Hh, HO, -⟩
    isplitl [Hh]; · iexact Hh
    iexact HO
  isplitl [Hb]; · iexact Hb
  isplitl [Hh HO]
  · iapply (reg_pre V c)
    isplitl [Hh]; · iexact Hh
    isplitl [HO]; · iexact HO
    isplitl <;> iempintro
  isplitl [HL]; · iexact HL
  isplitl [Hg]; · iexact Hg
  iexact Ht

end Cert.Proof.Region

end
-- ==== Proof.TileProg.lean ====
/-
  THE TILE'S TASK, AS THREE COPIES AND THREE PHASES.

  The printed task of a tile is: its rows of the three arrays of indices copied to its scratch lists, one after the
  other, and then one `phase` per table.
-/
module

public import proofs.«01_k».proof.Proof.Phase
public import proofs.«01_k».proof.Proof.Gen.KernelIdeal.Skeleton

@[expose] public section

noncomputable section

namespace Cert.Proof.TileProg

open Cert.KernelIdeal Cert.KernelIdeal.Gen
open Idealize.ShloMosaic Idealize.ShloMosaic.SparseCore
open Idealize.SL.Sem
open Cert.Proof.Phase

variable {F : FTy → Type} [FloatOps F]

/-- A tile's rows of an array of indices, -/
abbrev idxRows (i : grid0.Coords) (a : Memref sig .scVector .hbm S128x128 .i32) : Memref sig .scVector .hbm S4x128 .i32 :=
  a.slice (Rect.unit (s := S128x128) (k0_off1 i) S4x128.size (k0_off1_inb i)) (fun _ => rfl)
/-- its rows of a result, -/
abbrev outRows (i : grid0.Coords) (a : Memref sig .scVector .hbm S16384x128 .f32) : Memref sig .scVector .hbm S512x128 .f32 :=
  a.slice (Rect.unit (s := S16384x128) (k0_off2 i) S512x128.size (k0_off2_inb i)) (fun _ => rfl)
/-- all of a table, as the gathers address it. -/
abbrev tab (a : Memref sig .scVector .hbm S1024x128 .f32) : Memref sig .scVector .hbm S1024x128 .f32 :=
  a.slice (Rect.unit (s := S1024x128) ![0, 0] S1024x128.size inb_S1024x128_S1024x128_0_0) (fun _ => rfl)
abbrev tab' (a : Memref sig .scVector .hbm S1000x128 .f32) : Memref sig .scVector .hbm S1000x128 .f32 :=
  a.slice (Rect.unit (s := S1000x128) ![0, 0] S1000x128.size inb_S1000x128_S1000x128_0_0) (fun _ => rfl)

theorem streamRows : S1024x128.StreamRows 0 := by decide
theorem streamRows' : S1000x128.StreamRows 0 := by decide

/-- A copy and its wait, ahead of a continuation. -/
abbrev copyIn (a : Fin τ.nSC) (b : Fin τ.nSub) (from_ : Memref sig .scVector .hbm S4x128 .i32) (to_ : Memref sig .scVector .vmem S4x128 .i32) (hto : to_.view.WordExact) (sem : DmaSem sig)
    (k : PUnit → Prog (TpuEff nD τ sig (Elt F) Λ₀ (.scVector a b)) PUnit) : Prog (TpuEff nD τ sig (Elt F) Λ₀ (.scVector a b)) PUnit :=
  .op (.enqueueDma from_ (.here to_) (.dma sem) (View.wordExact_bits rfl) hto ⟨Or.inl rfl, trivial⟩) fun _ =>
  .op (.waitDma2 sem from_ to_ (View.wordExact_bits rfl) hto) k

set_option maxRecDepth 65536 in
theorem gather_eq (i : grid0.Coords) (arg2 : Memref sig .scVector .hbm S128x128 .i32) (harg2 : arg2.IsWhole) (arg3 : Memref sig .scVector .hbm S128x128 .i32) (harg3 : arg3.IsWhole)
    (arg4 : Memref sig .scVector .hbm S128x128 .i32) (harg4 : arg4.IsWhole) (arg5 : Memref sig .scVector .hbm S1024x128 .f32) (harg5 : arg5.IsWhole)
    (arg6 : Memref sig .scVector .hbm S1024x128 .f32) (harg6 : arg6.IsWhole) (arg7 : Memref sig .scVector .hbm S1000x128 .f32) (harg7 : arg7.IsWhole)
    (arg8 : Memref sig .scVector .hbm S16384x128 .f32) (harg8 : arg8.IsWhole) (arg9 : Memref sig .scVector .hbm S16384x128 .f32) (harg9 : arg9.IsWhole)
    (arg10 : Memref sig .scVector .hbm S16384x128 .f32) (harg10 : arg10.IsWhole) (arg11 : Memref sig .scVector .vmem S4x128 .i32) (harg11 : arg11.IsWhole)
    (arg12 : Memref sig .scVector .vmem S4x128 .i32) (harg12 : arg12.IsWhole) (arg13 : Memref sig .scVector .vmem S4x128 .i32) (harg13 : arg13.IsWhole)
    (arg14 : Memref sig .scVector .vmem S512x128 .f32) (harg14 : arg14.IsWhole) (arg15 r0 r1 r2 r3 r4 r5 : DmaSems sig S_) :
    cc0_sc_gather (F := F) i arg2 harg2 arg3 harg3 arg4 harg4 arg5 harg5 arg6 harg6 arg7 harg7 arg8 harg8 arg9 harg9 arg10 harg10 arg11 harg11 arg12 harg12
        arg13 harg13 arg14 harg14 arg15 r0 r1 r2 r3 r4 r5
      = copyIn _ _ (idxRows i arg2) arg11 harg11.wordExact r0.sem fun _ => copyIn _ _ (idxRows i arg3) arg12 harg12.wordExact r1.sem fun _ =>
        copyIn _ _ (idxRows i arg4) arg13 harg13.wordExact r2.sem fun _ =>
        phase _ _ (tab arg5) gathers_S1024x128_S128x128 streamRows arg11 arg14 (outRows i arg8) arg15.sem r3.sem harg14.wordExact fun _ =>
        phase _ _ (tab arg6) gathers_S1024x128_S128x128 streamRows arg12 arg14 (outRows i arg9) arg15.sem r4.sem harg14.wordExact fun _ =>
        phase _ _ (tab' arg7) gathers_S1000x128_S128x128 streamRows' arg13 arg14 (outRows i arg10) arg15.sem r5.sem harg14.wordExact fun _ => pure ⟨⟩ := by
  rw [cc0_sc_gather_eq_skeleton]
  unfold cc0_sc_gather_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [bind_assoc, pure_bind]
  rfl

end Cert.Proof.TileProg

end
-- ==== Proof.TileValue.lean ====
/-
  WHAT A TILE WRITES, in terms of the whole arrays.

  A tile's rows of an array of indices and of a result are the parts the handshake names (`iPart`, `oPart`), and what its
  gathers leave in its row buffer is the rows of `looked` at its rows of the result (`gathered_looked`).
-/
module

public import proofs.«01_k».proof.Proof.TileProg
public import proofs.«01_k».proof.Proof.Setup

@[expose] public section

noncomputable section

namespace Cert.Proof.TileValue

open Cert.KernelIdeal Cert.KernelIdeal.Gen
open Idealize.ShloMosaic Idealize.ShloMosaic.SparseCore
open Idealize.ShloMosaic.SparseCore.Cfg (HIx)
open Idealize.SL
open Idealize.SL.BI (sProp)
open scoped Idealize.SL.BI
open Idealize.SL.BI.BIBase Idealize.SL.BI.Laws Idealize.SL.Sem
open Idealize.SL.RA
open Cert.Proof.Phase Cert.Proof.Looked Cert.Proof.TileProg Cert.Proof.Setup

variable {F : FTy → Type} [FloatOps F]

variable (L : grid0.Coords)

/-- The tile's number among the 32. -/
abbrev wL : Fin 32 := wid (Fin.cast (by rfl : grid0.bound 0 = 2) (L 0)) (Fin.cast (by rfl : grid0.bound 1 = 16) (L 1))

theorem wL_val : (wL L).val = 2 * (L 1).val + (L 0).val := by
  show (L 0).val + 2 * (L 1).val = _
  omega

theorem rect_i : Rect.unit (s := S128x128) (k0_off1 L) S4x128.size (k0_off1_inb L) = Rect.part (s := S128x128) (a₀ := 0) div_i (wL L) := by
  have h := wL_val L
  generalize wL L = w at h ⊢
  unfold Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

theorem rect_o : Rect.unit (s := S16384x128) (k0_off2 L) S512x128.size (k0_off2_inb L) = Rect.part (s := S16384x128) (a₀ := 0) div_o (wL L) := by
  have h := wL_val L
  generalize wL L = w at h ⊢
  unfold Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

/-- Row `x` of the tile's rows of a result, in the result. -/
abbrev outAt (x : S512x128.Idx) : S16384x128.Idx := (Rect.unit (s := S16384x128) (k0_off2 L) S512x128.size (k0_off2_inb L)).emb x
/-- Entry `y` of the tile's rows of the indices, in the array. -/
abbrev idxAt (y : S4x128.Idx) : S128x128.Idx := (Rect.unit (s := S128x128) (k0_off1 L) S4x128.size (k0_off1_inb L)).emb y

/-- The index that names a row of the tile's is the one its gathers read. -/
theorem idxAt_eq (x : S512x128.Idx) : idxAt L (Shape.pair (d := ![4, 128]) (winOf x) (inWin x 0)) = entry (outAt L x 0) := by
  have hx : (x 0).val < 512 := (x 0).isLt
  have h1 : (outAt L x 0).val = 1024 * (L 1).val + 512 * (L 0).val + (x 0).val := by
    show k0_off2 L 0 + 1 * (x 0).val = _
    rw [k0_off2_eq]; show 1024 * (L 1).val + 512 * (L 0).val + 1 * (x 0).val = _; omega
  funext a
  refine Fin.ext ?_
  match a with
  | 0 =>
    show k0_off1 L 0 + 1 * ((x 0).val / 128) = (outAt L x 0).val / 128
    rw [h1, k0_off1_eq]; show 8 * (L 1).val + 4 * (L 0).val + 1 * ((x 0).val / 128) = _; omega
  | 1 =>
    show k0_off1 L 1 + 1 * ((x 0).val % 128) = (outAt L x 0).val % 128
    rw [h1, k0_off1_eq]; show 0 + 1 * ((x 0).val % 128) = _; omega

theorem outAt_one (x : S512x128.Idx) : outAt L x 1 = x 1 := by
  refine Fin.ext ?_
  show k0_off2 L 1 + 1 * (x 1).val = (x 1).val
  rw [k0_off2_eq]; show 0 + 1 * (x 1).val = _; omega

variable (d : Dev nD) (a : Fin τ.nSC) (b : Fin τ.nSub)

/-- What the scratch list holds once the tile's rows of the indices are copied there: those rows. -/
theorem list_read (iv : Memref sig .scVector .hbm S128x128 .i32) (scr : Memref sig .scVector .vmem S4x128 .i32)
    (fi : Buf (Elt F) (iv.view.loc (V d a b))) (fs : Buf (Elt F) (scr.view.loc (V d a b))) (y : S4x128.Idx) :
    scr.view.read (Elt F) (scr.view.write (Elt F) fs ((idxRows L iv).view.read (Elt F) fi) Finset.univ) y = iv.view.read (Elt F) fi (idxAt L y) := by
  rw [View.read_write_univ]
  rfl

/-- The gathers' rows are the rows of `looked`. -/
theorem gathered_looked {z : ℕ} (hz : 0 < z) (src : Memref sig .scVector .hbm (Tab z) .f32) (hg : (Tab z).Gathers 0 S128x128)
    (iv : Memref sig .scVector .hbm S128x128 .i32) (scr : Memref sig .scVector .vmem S4x128 .i32)
    (ft : Buf (Elt F) (src.view.loc (V d a b))) (fi : Buf (Elt F) (iv.view.loc (V d a b))) (fs : Buf (Elt F) (scr.view.loc (V d a b)))
    (hin : ∀ x, (scr.view.read (Elt F) (scr.view.write (Elt F) fs ((idxRows L iv).view.read (Elt F) fi) Finset.univ) x).toNat < (Tab z).size hg.axis)
    (hlt : ∀ y, (iv.view.read (Elt F) fi y).toNat < z) (x : S512x128.Idx) :
    gathered d a b src hg scr ft (scr.view.write (Elt F) fs ((idxRows L iv).view.read (Elt F) fi) Finset.univ) hin x
      = looked hz (src.view.read (Elt F) ft) (iv.view.read (Elt F) fi) (outAt L x) := by
  rw [gathered_apply]
  unfold looked
  refine congrArg _ ?_
  funext ax
  refine Fin.ext ?_
  match ax with
  | 0 =>
    show (scr.view.read (Elt F) _ (Shape.pair (d := ![4, 128]) (winOf x) (inWin x 0))).toNat = (iv.view.read (Elt F) fi (entry (outAt L x 0))).toNat % z
    rw [Nat.mod_eq_of_lt (hlt _), list_read, idxAt_eq]
  | 1 =>
    show (x 1).val = (outAt L x 1).val
    rw [outAt_one]

variable {U : Type} [URA U]
local notation "𝕄" => MT nD τ sig (HIx 1) (Elt F) ℕ U ℕ

/-- The tile's rows of a result written with `g`, where `g` is `G` at them: they hold what the result written with `G` does. -/
theorem written (ov : Memref sig .scVector .hbm S16384x128 .f32) (f0 : Buf (Elt F) (ov.view.loc (V d a b))) (g : S512x128.Idx → Elt F .f32)
    (G : S16384x128.Idx → Elt F .f32) (h : ∀ x, g x = G (outAt L x)) :
    (ov.view.loc (V d a b) ↦[(outRows L ov).view.set]{fullShare} ((outRows L ov).view.write (Elt F) f0 g Finset.univ) : sProp 𝕄)
      = ov.view.loc (V d a b) ↦[(outRows L ov).view.set]{fullShare} (ov.view.write (Elt F) f0 G Finset.univ) := by
  refine pointsTo_congr fun i hi => ?_
  obtain ⟨x, -, rfl⟩ := Finset.mem_map.mp hi
  have h1 := View.write_emb_of_mem (Val := Elt F) (v := (outRows L ov).view) f0 g (M := Finset.univ) (Finset.mem_univ x)
  have h2 := View.write_emb_of_mem (Val := Elt F) (v := ov.view) f0 G (M := Finset.univ) (Finset.mem_univ (outAt L x))
  rw [h1]
  change _ = ov.view.write (Elt F) f0 G Finset.univ (ov.view.emb (outAt L x))
  rw [h2, h x]

/-- All of a table as the gathers address it reads as the table does. -/
theorem read_tab (tv : Memref sig .scVector .hbm S1024x128 .f32) (ft : Buf (Elt F) (tv.view.loc (V d a b))) :
    (tab tv).view.read (Elt F) ft = tv.view.read (Elt F) ft := by
  funext x
  show tv.view.read (Elt F) ft ((Rect.unit (s := S1024x128) ![0, 0] S1024x128.size inb_S1024x128_S1024x128_0_0).emb x) = _
  refine congrArg _ (funext fun ax => Fin.ext ?_)
  match ax with
  | 0 => show 0 + 1 * (x 0).val = (x 0).val; omega
  | 1 => show 0 + 1 * (x 1).val = (x 1).val; omega
theorem read_tab' (tv : Memref sig .scVector .hbm S1000x128 .f32) (ft : Buf (Elt F) (tv.view.loc (V d a b))) :
    (tab' tv).view.read (Elt F) ft = tv.view.read (Elt F) ft := by
  funext x
  show tv.view.read (Elt F) ft ((Rect.unit (s := S1000x128) ![0, 0] S1000x128.size inb_S1000x128_S1000x128_0_0).emb x) = _
  refine congrArg _ (funext fun ax => Fin.ext ?_)
  match ax with
  | 0 => show 0 + 1 * (x 0).val = (x 0).val; omega
  | 1 => show 0 + 1 * (x 1).val = (x 1).val; omega

end Cert.Proof.TileValue

end
-- ==== Proof.TileOwn.lean ====
/-
  WHAT A TILE OWNS, taken out of what the launch hands it: its four scratch buffers and the seven DMA semaphores its task
  names; and its rows of the arrays as its task addresses them.
-/
module

public import proofs.«01_k».proof.Proof.TileValue

@[expose] public section

noncomputable section

namespace Cert.Proof.TileOwn

open Cert.KernelIdeal Cert.KernelIdeal.Gen
open Idealize.ShloMosaic Idealize.ShloMosaic.SparseCore
open Idealize.ShloMosaic.SparseCore.Cfg (HIx ownBufs ownSems0 ownCells ownRefs mem_ownCells mem_ownRefs)
open Idealize.SL
open Idealize.SL.BI (sProp bigSep)
open scoped Idealize.SL.BI
open Idealize.SL.BI.BIBase Idealize.SL.BI.Laws Idealize.SL.Sem
open Idealize.SL.RA
open Cert.Proof.TileProg Cert.Proof.Setup Cert.Proof.TileValue

variable {F : FTy → Type}

local notation "𝕄" => MT nD τ sig (HIx 1) (Elt F) ℕ UU ℕ

variable (d : Dev nD) (c : Fin τ.nSC) (j : Fin τ.nSub)

/-! ## The semaphores -/

/-- The DMA semaphores the task names: the gathers', then the six copies'. -/
def semOf : Fin 7 → DmaSem sig :=
  ![cc0_scratch4.sem, cc0_scoped0.sem, cc0_scoped1.sem, cc0_scoped2.sem, cc0_scoped3.sem, cc0_scoped4.sem, cc0_scoped5.sem]
theorem semOf_injective : Function.Injective semOf := by decide
/-- Their cells on one tile. -/
def cellOf : Fin 7 ↪ GSem nD τ sig := ⟨fun k => (V d c j, .dma (semOf k)), fun _ _ h => semOf_injective (SemLoc.dma.inj (Prod.mk.inj h).2)⟩

theorem cells_subset : Finset.univ.map (cellOf d c j) ⊆ ownCells (V d c j) := by
  intro g hg
  obtain ⟨k, -, rfl⟩ := Finset.mem_map.mp hg
  exact mem_ownCells.mpr ⟨rfl, (by decide : ∀ k, (SemLoc.dma (semOf k) : SemLoc sig).isScoped .scVector = true) k⟩

abbrev semsRest : sProp 𝕄 := bigSep (ownCells (V d c j) \ Finset.univ.map (cellOf d c j)) fun g => semVal g 0

theorem ownSems0_V : (ownSems0 (V d c j) : sProp 𝕄)
    = iprop((semVal (V d c j, (.dma cc0_scratch4.sem : SemLoc sig)) 0 ∗ semVal (V d c j, (.dma cc0_scoped0.sem : SemLoc sig)) 0
        ∗ semVal (V d c j, (.dma cc0_scoped1.sem : SemLoc sig)) 0 ∗ semVal (V d c j, (.dma cc0_scoped2.sem : SemLoc sig)) 0
        ∗ semVal (V d c j, (.dma cc0_scoped3.sem : SemLoc sig)) 0 ∗ semVal (V d c j, (.dma cc0_scoped4.sem : SemLoc sig)) 0
        ∗ semVal (V d c j, (.dma cc0_scoped5.sem : SemLoc sig)) 0) ∗ semsRest d c j) := by
  unfold SparseCore.Cfg.ownSems0 semsRest
  refine (BI.bigSep_sdiff_split (cells_subset d c j)).trans ?_
  rw [BI.bigSep_map, BI.bigSep_univ_eq_bigSepL [0, 1, 2, 3, 4, 5, 6] (by decide) (by decide)]
  rfl

/-! ## The scratch buffers -/

def bufOf : Fin 4 → Ref sig .scVector := ![cc0_scratch0, cc0_scratch1, cc0_scratch2, cc0_scratch3]
theorem bufOf_injective : Function.Injective bufOf := by decide
def refOf : Fin 4 ↪ DevRef τ sig := ⟨fun k => (Proc.scVector c j).devRef (bufOf k), fun _ _ h => bufOf_injective (Proc.devRef_injective _ h)⟩

theorem refs_subset : Finset.univ.map (refOf c j) ⊆ ownRefs (τ := τ) (.scVector c j) := by
  intro g hg
  obtain ⟨k, -, rfl⟩ := Finset.mem_map.mp hg
  refine SparseCore.Cfg.mem_ownRefs_of_owner (p := Proc.scVector c j) (b := (Proc.scVector c j).devRef (bufOf k)) ?_
  match k with
  | 0 => rfl
  | 1 => rfl
  | 2 => rfl
  | 3 => rfl

abbrev bufsRest : sProp 𝕄 := bigSep (ownRefs (τ := τ) (.scVector c j) \ Finset.univ.map (refOf c j)) fun b => iprop(∃ f, ((d, b) : Loc nD τ sig) ↦{fullShare} f)

theorem ownBufs_V : (ownBufs (V d c j) : sProp 𝕄)
    = iprop(((∃ f, (V d c j).loc cc0_scratch0 ↦{fullShare} f) ∗ (∃ f, (V d c j).loc cc0_scratch1 ↦{fullShare} f)
        ∗ (∃ f, (V d c j).loc cc0_scratch2 ↦{fullShare} f) ∗ (∃ f, (V d c j).loc cc0_scratch3 ↦{fullShare} f)) ∗ bufsRest d c j) := by
  unfold SparseCore.Cfg.ownBufs bufsRest
  refine (BI.bigSep_sdiff_split (refs_subset c j)).trans ?_
  rw [BI.bigSep_map, BI.bigSep_univ_eq_bigSepL [0, 1, 2, 3] (by decide) (by decide)]
  rfl

/-! ## The arrays -/

variable (L : grid0.Coords)

theorem set_i0 : (idxRows L (Memref.whole main_v3_scv)).view.set = iPart (wL L) := by
  show ((View.whole main_v3_scv).slice _).set = _
  rw [View.set_slice, rect_i]; exact Finset.map_refl
theorem set_i1 : (idxRows L (Memref.whole main_v6_scv)).view.set = iPart (wL L) := by
  show ((View.whole main_v6_scv).slice _).set = _
  rw [View.set_slice, rect_i]; exact Finset.map_refl
theorem set_i2 : (idxRows L (Memref.whole main_v9_scv)).view.set = iPart (wL L) := by
  show ((View.whole main_v9_scv).slice _).set = _
  rw [View.set_slice, rect_i]; exact Finset.map_refl
theorem set_o0 : (outRows L (Memref.whole main_v15_0_scv)).view.set = oPart (wL L) := by
  show ((View.whole main_v15_0_scv).slice _).set = _
  rw [View.set_slice, rect_o]; exact Finset.map_refl
theorem set_o1 : (outRows L (Memref.whole main_v15_1_scv)).view.set = oPart (wL L) := by
  show ((View.whole main_v15_1_scv).slice _).set = _
  rw [View.set_slice, rect_o]; exact Finset.map_refl
theorem set_o2 : (outRows L (Memref.whole main_v15_2_scv)).view.set = oPart (wL L) := by
  show ((View.whole main_v15_2_scv).slice _).set = _
  rw [View.set_slice, rect_o]; exact Finset.map_refl

theorem rect_tab : (Rect.unit (s := S1024x128) ![0, 0] S1024x128.size inb_S1024x128_S1024x128_0_0).set = Finset.univ := by
  ext i
  simp only [Finset.mem_univ, iff_true]
  refine Rect.mem_set_unit.mpr fun a => ?_
  have := (i a).isLt
  match a with
  | 0 => exact ⟨Nat.zero_le _, by show (i 0).val < 0 + _; rw [Nat.zero_add]; exact (i 0).isLt⟩
  | 1 => exact ⟨Nat.zero_le _, by show (i 1).val < 0 + _; rw [Nat.zero_add]; exact (i 1).isLt⟩
theorem rect_tab' : (Rect.unit (s := S1000x128) ![0, 0] S1000x128.size inb_S1000x128_S1000x128_0_0).set = Finset.univ := by
  ext i
  simp only [Finset.mem_univ, iff_true]
  refine Rect.mem_set_unit.mpr fun a => ?_
  match a with
  | 0 => exact ⟨Nat.zero_le _, by show (i 0).val < 0 + _; rw [Nat.zero_add]; exact (i 0).isLt⟩
  | 1 => exact ⟨Nat.zero_le _, by show (i 1).val < 0 + _; rw [Nat.zero_add]; exact (i 1).isLt⟩

theorem set_t0 : (tab (Memref.whole main_v11_scv)).view.set = Finset.univ := by
  show ((View.whole main_v11_scv).slice _).set = _
  rw [View.set_slice, rect_tab]; exact Finset.map_refl
theorem set_t1 : (tab (Memref.whole main_v13_scv)).view.set = Finset.univ := by
  show ((View.whole main_v13_scv).slice _).set = _
  rw [View.set_slice, rect_tab]; exact Finset.map_refl
theorem set_t2 : (tab' (Memref.whole main_v14_scv)).view.set = Finset.univ := by
  show ((View.whole main_v14_scv).slice _).set = _
  rw [View.set_slice, rect_tab']; exact Finset.map_refl

/-! ## The same, as what the task holds -/

theorem pts_i0 (q : PosShare TreeShare) (f : Buf (Elt F) (i0Loc d)) : (i0Loc d ↦[iPart (wL L)]{q} f : sProp 𝕄)
    = (idxRows L (Memref.whole main_v3_scv)).view.loc (V d c j) ↦[(idxRows L (Memref.whole main_v3_scv)).view.set]{q} f := by rw [set_i0]
theorem pts_i1 (q : PosShare TreeShare) (f : Buf (Elt F) (i1Loc d)) : (i1Loc d ↦[iPart (wL L)]{q} f : sProp 𝕄)
    = (idxRows L (Memref.whole main_v6_scv)).view.loc (V d c j) ↦[(idxRows L (Memref.whole main_v6_scv)).view.set]{q} f := by rw [set_i1]
theorem pts_i2 (q : PosShare TreeShare) (f : Buf (Elt F) (i2Loc d)) : (i2Loc d ↦[iPart (wL L)]{q} f : sProp 𝕄)
    = (idxRows L (Memref.whole main_v9_scv)).view.loc (V d c j) ↦[(idxRows L (Memref.whole main_v9_scv)).view.set]{q} f := by rw [set_i2]
theorem pts_o0 (f : Buf (Elt F) (o0Loc d)) : (o0Loc d ↦[oPart (wL L)]{fullShare} f : sProp 𝕄)
    = (outRows L (Memref.whole main_v15_0_scv)).view.loc (V d c j) ↦[(outRows L (Memref.whole main_v15_0_scv)).view.set]{fullShare} f := by rw [set_o0]
theorem pts_o1 (f : Buf (Elt F) (o1Loc d)) : (o1Loc d ↦[oPart (wL L)]{fullShare} f : sProp 𝕄)
    = (outRows L (Memref.whole main_v15_1_scv)).view.loc (V d c j) ↦[(outRows L (Memref.whole main_v15_1_scv)).view.set]{fullShare} f := by rw [set_o1]
theorem pts_o2 (f : Buf (Elt F) (o2Loc d)) : (o2Loc d ↦[oPart (wL L)]{fullShare} f : sProp 𝕄)
    = (outRows L (Memref.whole main_v15_2_scv)).view.loc (V d c j) ↦[(outRows L (Memref.whole main_v15_2_scv)).view.set]{fullShare} f := by rw [set_o2]
theorem pts_t0 (q : PosShare TreeShare) (f : Buf (Elt F) (t0Loc d)) : (t0Loc d ↦{q} f : sProp 𝕄)
    = (tab (Memref.whole main_v11_scv)).view.loc (V d c j) ↦[(tab (Memref.whole main_v11_scv)).view.set]{q} f := by rw [set_t0]
theorem pts_t1 (q : PosShare TreeShare) (f : Buf (Elt F) (t1Loc d)) : (t1Loc d ↦{q} f : sProp 𝕄)
    = (tab (Memref.whole main_v13_scv)).view.loc (V d c j) ↦[(tab (Memref.whole main_v13_scv)).view.set]{q} f := by rw [set_t1]
theorem pts_t2 (q : PosShare TreeShare) (f : Buf (Elt F) (t2Loc d)) : (t2Loc d ↦{q} f : sProp 𝕄)
    = (tab' (Memref.whole main_v14_scv)).view.loc (V d c j) ↦[(tab' (Memref.whole main_v14_scv)).view.set]{q} f := by rw [set_t2]
theorem pts_scr (r : Ref sig .scVector) (f : Buf (Elt F) ((V d c j).loc r)) : ((V d c j).loc r ↦{fullShare} f : sProp 𝕄)
    = (Memref.whole r).view.loc (V d c j) ↦[(Memref.whole r).view.set]{fullShare} f := by
  rw [show (Memref.whole r).view.set = Finset.univ from View.set_whole _]

end Cert.Proof.TileOwn

end
-- ==== Proof.Tile.lean ====
/-
  A TILE'S TASK, RUN.

  `tile_body`: three copies bring the tile's rows of the indices to its scratch lists, three phases look its rows up and
  copy them out; its rows of the results end at the rows of `looked`. `tileObl` is the same as the obligation the
  launch asks of the SparseCore call.
-/
module

public import proofs.«01_k».proof.Proof.TileOwn
public import Idealize.ShloMosaic.Lib.Tactic

@[expose] public section

noncomputable section

namespace Cert.Proof.Tile

open Cert.KernelIdeal Cert.KernelIdeal.Gen
open Idealize.ShloMosaic Idealize.ShloMosaic.SparseCore
open Idealize.ShloMosaic.SparseCore.Cfg (HIx Pay)
open Idealize.SL
open Idealize.SL.BI (sProp bigSep)
open scoped Idealize.SL.BI
open Idealize.SL.BI.BIBase Idealize.SL.BI.Laws Idealize.SL.Sem Idealize.SL.ProofMode
open Idealize.SL.RA
open Cert.Proof.Phase Cert.Proof.Looked Cert.Proof.TileProg Cert.Proof.Setup Cert.Proof.TileValue Cert.Proof.TileOwn

variable {F : FTy → Type} [FloatOps F]

local notation "𝕄" => MT nD τ sig (HIx 1) (Elt F) ℕ UU ℕ

variable (X : Dev nD → Ops F) (d : Dev nD) (L : grid0.Coords)

abbrev cV : Fin τ.nSC := (L 0).castLE hcore0
abbrev jV : Fin τ.nSub := (L 1).castLE hsub0

/-- A wait recorded at the launch's own index adds nothing the launch forbids. -/
theorem waits_trans {W W' W'' : Waits sig (HIx 1)} (h : ∀ p ∈ W', p ∈ W ∨ p.2 = none) (h' : ∀ p ∈ W'', p ∈ W' ∨ p.2 = none) :
    ∀ p ∈ W'', p ∈ W ∨ p.2 = none := fun p hp => (h' p hp).elim (h p) .inr

/-- What a gathered row weighs on its semaphore. -/
theorem row_credit (hg : S1024x128.Gathers 0 S128x128) (j : Fin 4) (x) :
    ((win (Memref.whole cc0_scratch3) j).slice (S128x128.rowRect hg.axis' x) (S128x128.stride_rowRect hg.axis' x)).view.dmaCredit = 4096 := by
  revert hg j x; decide +kernel
theorem row_credit' (hg : S1000x128.Gathers 0 S128x128) (j : Fin 4) (x) :
    ((win (Memref.whole cc0_scratch3) j).slice (S128x128.rowRect hg.axis' x) (S128x128.stride_rowRect hg.axis' x)).view.dmaCredit = 4096 := by
  revert hg j x; decide +kernel

set_option maxHeartbeats 2000000 in
theorem tile_body (hF : (K (F := F)).Facts) (hX : ∀ d, (X d).InRange) (O : CellTallies nD τ sig (HIx 1)) (W : Waits sig (HIx 1)) (hO : ∀ g, O g none = 0) :
    iprop(levAts (K (F := F)).L (K (F := F)).lev ∗ emp
        ∗ (reads X d (wL L) ∗ before X d (wL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather (F := F) L (Memref.whole main_v3_scv) (Memref.isWhole_whole _) (Memref.whole main_v6_scv) (Memref.isWhole_whole _)
            (Memref.whole main_v9_scv) (Memref.isWhole_whole _) (Memref.whole main_v11_scv) (Memref.isWhole_whole _)
            (Memref.whole main_v13_scv) (Memref.isWhole_whole _) (Memref.whole main_v14_scv) (Memref.isWhole_whole _)
            (Memref.whole main_v15_0_scv) (Memref.isWhole_whole _) (Memref.whole main_v15_1_scv) (Memref.isWhole_whole _)
            (Memref.whole main_v15_2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scoped0 cc0_scoped1 cc0_scoped2 cc0_scoped3 cc0_scoped4 cc0_scoped5)
          fun _ => iprop((reads X d (wL L) ∗ after X d (wL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [gather_eq]
  rw [(K (F := F)).scopedBufs_V hF d (cV L) (jV L), SparseCore.Cfg.scopedSems0_V (Val := Elt F) d (cV L) (jV L), ownSems0_V, ownBufs_V]
  iintro ⟨#Hlv, -, ⟨⟨Hi0, Hi1, Hi2, Ht0, Ht1, Ht2⟩, Ho0, Ho1, Ho2⟩, ⟨⟨⟨%f0, Hs0⟩, ⟨%f1, Hs1⟩, ⟨%f2, Hs2⟩, ⟨%fb, Hb⟩⟩, Hbufs⟩,
    ⟨⟨Hg, Hv0, Hv1, Hv2, Hv3, Hv4, Hv5⟩, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  have r0 : ∀ y, ((Memref.whole main_v3_scv).view.read (Elt F) ((X d).i0) y).toNat < 1000 := fun y => (hX d y).1
  have r1 : ∀ y, ((Memref.whole main_v6_scv).view.read (Elt F) ((X d).i1) y).toNat < 1000 := fun y => (hX d y).2.1
  have r2 : ∀ y, ((Memref.whole main_v9_scv).view.read (Elt F) ((X d).i2) y).toNat < 1000 := fun y => (hX d y).2.2
  ihave Hi0 := (Entails.of_eq (pts_i0 d (cV L) (jV L) L fullShare _)) $$ Hi0
  ihave Ht0 := (Entails.of_eq (pts_t0 d (cV L) (jV L) _ _)) $$ Ht0
  ihave Ho0 := (Entails.of_eq (pts_o0 d (cV L) (jV L) L _)) $$ Ho0
  ihave Hs0 := (Entails.of_eq (pts_scr d (cV L) (jV L) cc0_scratch0 _)) $$ Hs0
  ihave Hi1 := (Entails.of_eq (pts_i1 d (cV L) (jV L) L fullShare _)) $$ Hi1
  ihave Ht1 := (Entails.of_eq (pts_t1 d (cV L) (jV L) _ _)) $$ Ht1
  ihave Ho1 := (Entails.of_eq (pts_o1 d (cV L) (jV L) L _)) $$ Ho1
  ihave Hs1 := (Entails.of_eq (pts_scr d (cV L) (jV L) cc0_scratch1 _)) $$ Hs1
  ihave Hi2 := (Entails.of_eq (pts_i2 d (cV L) (jV L) L fullShare _)) $$ Hi2
  ihave Ht2 := (Entails.of_eq (pts_t2 d (cV L) (jV L) _ _)) $$ Ht2
  ihave Ho2 := (Entails.of_eq (pts_o2 d (cV L) (jV L) L _)) $$ Ho2
  ihave Hs2 := (Entails.of_eq (pts_scr d (cV L) (jV L) cc0_scratch2 _)) $$ Hs2
  ihave Hb := (Entails.of_eq (pts_scr d (cV L) (jV L) cc0_scratch3 _)) $$ Hb
  iapply (wp_syncCopy countersEmb (defs₀ (F := F)) 𝒱₀ none fullShare 16384 rfl (by decide) (O := O) (c := V d (cV L) (jV L))) $$ [Hi0 Hs0 Hv0 HO]
  · isplitl [Hi0]; · iexact Hi0
    isplitl [Hs0]; · iexact Hs0
    isplitl [Hv0]; · iexact Hv0
    isplitl [HO]; · iexact HO
    iexact Hmw
  iintro ⟨Hs0, Hi0, Hv0, HO⟩
  iapply (wp_syncCopy countersEmb (defs₀ (F := F)) 𝒱₀ none fullShare 16384 rfl (by decide) (O := O) (c := V d (cV L) (jV L))) $$ [Hi1 Hs1 Hv1 HO]
  · isplitl [Hi1]; · iexact Hi1
    isplitl [Hs1]; · iexact Hs1
    isplitl [Hv1]; · iexact Hv1
    isplitl [HO]; · iexact HO
    iexact Hmw
  iintro ⟨Hs1, Hi1, Hv1, HO⟩
  iapply (wp_syncCopy countersEmb (defs₀ (F := F)) 𝒱₀ none fullShare 16384 rfl (by decide) (O := O) (c := V d (cV L) (jV L))) $$ [Hi2 Hs2 Hv2 HO]
  · isplitl [Hi2]; · iexact Hi2
    isplitl [Hs2]; · iexact Hs2
    isplitl [Hv2]; · iexact Hv2
    isplitl [HO]; · iexact HO
    iexact Hmw
  iintro ⟨Hs2, Hi2, Hv2, HO⟩
  have h0 : ∀ x, ((Memref.whole cc0_scratch0).view.read (Elt F) ((Memref.whole cc0_scratch0).view.write (Elt F) f0
      ((idxRows L (Memref.whole main_v3_scv)).view.read (Elt F) ((X d).i0)) Finset.univ) x).toNat < (Tab 1024).size (gathers_S1024x128_S128x128).axis := fun x => by
    rw [list_read L d (cV L) (jV L)]; exact Nat.lt_of_lt_of_le (r0 _) (by decide)
  iapply (wp_phase d (cV L) (jV L) (tab (Memref.whole main_v11_scv)) gathers_S1024x128_S128x128 streamRows (Memref.whole cc0_scratch0) (Memref.whole cc0_scratch3) (outRows L (Memref.whole main_v15_0_scv))
    cc0_scratch4.sem cc0_scoped3.sem countersEmb (defs₀ (F := F)) 𝒱₀ none (tq (wL L)) _ _ _ _ h0 4096 2097152 (row_credit _) (by decide) (fun _ => rfl) rfl (by decide)
    (Memref.isWhole_whole _).wordExact (O := O)) $$ [Ht0 Hs0 Hb Ho0 Hg Hv3 HO]
  · isplitl [Ht0]; · iexact Ht0
    isplitl [Hs0]; · iexact Hs0
    isplitl [Hb]; · iexact Hb
    isplitl [Ho0]; · iexact Ho0
    isplitl [Hg]; · iexact Hg
    isplitl [Hv3]; · iexact Hv3
    isplitl [HO]; · iexact HO
    iexact Hmw
  iintro ⟨Ht0, Hs0, Hb, Ho0, Hg, Hv3, %W0, %hW0, HO⟩
  have h1 : ∀ x, ((Memref.whole cc0_scratch1).view.read (Elt F) ((Memref.whole cc0_scratch1).view.write (Elt F) f1
      ((idxRows L (Memref.whole main_v6_scv)).view.read (Elt F) ((X d).i1)) Finset.univ) x).toNat < (Tab 1024).size (gathers_S1024x128_S128x128).axis := fun x => by
    rw [list_read L d (cV L) (jV L)]; exact Nat.lt_of_lt_of_le (r1 _) (by decide)
  iapply (wp_phase d (cV L) (jV L) (tab (Memref.whole main_v13_scv)) gathers_S1024x128_S128x128 streamRows (Memref.whole cc0_scratch1) (Memref.whole cc0_scratch3) (outRows L (Memref.whole main_v15_1_scv))
    cc0_scratch4.sem cc0_scoped4.sem countersEmb (defs₀ (F := F)) 𝒱₀ none (tq (wL L)) _ _ _ _ h1 4096 2097152 (row_credit _) (by decide) (fun _ => rfl) rfl (by decide)
    (Memref.isWhole_whole _).wordExact (O := O)) $$ [Ht1 Hs1 Hb Ho1 Hg Hv4 HO]
  · isplitl [Ht1]; · iexact Ht1
    isplitl [Hs1]; · iexact Hs1
    isplitl [Hb]; · iexact Hb
    isplitl [Ho1]; · iexact Ho1
    isplitl [Hg]; · iexact Hg
    isplitl [Hv4]; · iexact Hv4
    isplitl [HO]; · iexact HO
    iexact Hmw
  iintro ⟨Ht1, Hs1, Hb, Ho1, Hg, Hv4, %W1, %hW1, HO⟩
  have h2 : ∀ x, ((Memref.whole cc0_scratch2).view.read (Elt F) ((Memref.whole cc0_scratch2).view.write (Elt F) f2
      ((idxRows L (Memref.whole main_v9_scv)).view.read (Elt F) ((X d).i2)) Finset.univ) x).toNat < (Tab 1000).size (gathers_S1000x128_S128x128).axis := fun x => by
    rw [list_read L d (cV L) (jV L)]; exact Nat.lt_of_lt_of_le (r2 _) (by decide)
  iapply (wp_phase d (cV L) (jV L) (tab' (Memref.whole main_v14_scv)) gathers_S1000x128_S128x128 streamRows' (Memref.whole cc0_scratch2) (Memref.whole cc0_scratch3) (outRows L (Memref.whole main_v15_2_scv))
    cc0_scratch4.sem cc0_scoped5.sem countersEmb (defs₀ (F := F)) 𝒱₀ none (tq (wL L)) _ _ _ _ h2 4096 2097152 (row_credit' _) (by decide) (fun _ => rfl) rfl (by decide)
    (Memref.isWhole_whole _).wordExact (O := O)) $$ [Ht2 Hs2 Hb Ho2 Hg Hv5 HO]
  · isplitl [Ht2]; · iexact Ht2
    isplitl [Hs2]; · iexact Hs2
    isplitl [Hb]; · iexact Hb
    isplitl [Ho2]; · iexact Ho2
    isplitl [Hg]; · iexact Hg
    isplitl [Hv5]; · iexact Hv5
    isplitl [HO]; · iexact HO
    iexact Hmw
  iintro ⟨Ht2, Hs2, Hb, Ho2, Hg, Hv5, %W2, %hW2, HO⟩
  have e0 : ∀ x, gathered d (cV L) (jV L) (tab (Memref.whole main_v11_scv)) gathers_S1024x128_S128x128 (Memref.whole cc0_scratch0) ((X d).t0)
      ((Memref.whole cc0_scratch0).view.write (Elt F) f0 ((idxRows L (Memref.whole main_v3_scv)).view.read (Elt F) ((X d).i0)) Finset.univ) h0 x = (X d).r0 (outAt L x) := fun x => by
    refine (gathered_looked L d (cV L) (jV L) (z := 1024) (by decide) (tab (Memref.whole main_v11_scv)) gathers_S1024x128_S128x128 (Memref.whole main_v3_scv) (Memref.whole cc0_scratch0) ((X d).t0) ((X d).i0) f0 h0
      (fun y => Nat.lt_of_lt_of_le (r0 y) (by decide)) x).trans ?_
    rw [read_tab d (cV L) (jV L)]
    rfl
  ihave Ho0 := (Entails.of_eq ((written L d (cV L) (jV L) (Memref.whole main_v15_0_scv) ((X d).o0) _ ((X d).r0) e0).trans
    ((pointsTo_congr fun i _ => congrFun (View.write_whole_univ (Val := Elt F) _ _ _) i).trans (pts_o0 d (cV L) (jV L) L _).symm))) $$ Ho0
  ihave Hi0 := (Entails.of_eq (pts_i0 d (cV L) (jV L) L fullShare _).symm) $$ Hi0
  ihave Ht0 := (Entails.of_eq (pts_t0 d (cV L) (jV L) _ _).symm) $$ Ht0
  ihave Hs0 := (Entails.of_eq (pts_scr d (cV L) (jV L) cc0_scratch0 _).symm) $$ Hs0
  have e1 : ∀ x, gathered d (cV L) (jV L) (tab (Memref.whole main_v13_scv)) gathers_S1024x128_S128x128 (Memref.whole cc0_scratch1) ((X d).t1)
      ((Memref.whole cc0_scratch1).view.write (Elt F) f1 ((idxRows L (Memref.whole main_v6_scv)).view.read (Elt F) ((X d).i1)) Finset.univ) h1 x = (X d).r1 (outAt L x) := fun x => by
    refine (gathered_looked L d (cV L) (jV L) (z := 1024) (by decide) (tab (Memref.whole main_v13_scv)) gathers_S1024x128_S128x128 (Memref.whole main_v6_scv) (Memref.whole cc0_scratch1) ((X d).t1) ((X d).i1) f1 h1
      (fun y => Nat.lt_of_lt_of_le (r1 y) (by decide)) x).trans ?_
    rw [read_tab d (cV L) (jV L)]
    rfl
  ihave Ho1 := (Entails.of_eq ((written L d (cV L) (jV L) (Memref.whole main_v15_1_scv) ((X d).o1) _ ((X d).r1) e1).trans
    ((pointsTo_congr fun i _ => congrFun (View.write_whole_univ (Val := Elt F) _ _ _) i).trans (pts_o1 d (cV L) (jV L) L _).symm))) $$ Ho1
  ihave Hi1 := (Entails.of_eq (pts_i1 d (cV L) (jV L) L fullShare _).symm) $$ Hi1
  ihave Ht1 := (Entails.of_eq (pts_t1 d (cV L) (jV L) _ _).symm) $$ Ht1
  ihave Hs1 := (Entails.of_eq (pts_scr d (cV L) (jV L) cc0_scratch1 _).symm) $$ Hs1
  have e2 : ∀ x, gathered d (cV L) (jV L) (tab' (Memref.whole main_v14_scv)) gathers_S1000x128_S128x128 (Memref.whole cc0_scratch2) ((X d).t2)
      ((Memref.whole cc0_scratch2).view.write (Elt F) f2 ((idxRows L (Memref.whole main_v9_scv)).view.read (Elt F) ((X d).i2)) Finset.univ) h2 x = (X d).r2 (outAt L x) := fun x => by
    refine (gathered_looked L d (cV L) (jV L) (z := 1000) (by decide) (tab' (Memref.whole main_v14_scv)) gathers_S1000x128_S128x128 (Memref.whole main_v9_scv) (Memref.whole cc0_scratch2) ((X d).t2) ((X d).i2) f2 h2
      (fun y => Nat.lt_of_lt_of_le (r2 y) (by decide)) x).trans ?_
    rw [read_tab' d (cV L) (jV L)]
    rfl
  ihave Ho2 := (Entails.of_eq ((written L d (cV L) (jV L) (Memref.whole main_v15_2_scv) ((X d).o2) _ ((X d).r2) e2).trans
    ((pointsTo_congr fun i _ => congrFun (View.write_whole_univ (Val := Elt F) _ _ _) i).trans (pts_o2 d (cV L) (jV L) L _).symm))) $$ Ho2
  ihave Hi2 := (Entails.of_eq (pts_i2 d (cV L) (jV L) L fullShare _).symm) $$ Hi2
  ihave Ht2 := (Entails.of_eq (pts_t2 d (cV L) (jV L) _ _).symm) $$ Ht2
  ihave Hs2 := (Entails.of_eq (pts_scr d (cV L) (jV L) cc0_scratch2 _).symm) $$ Hs2
  ihave Hb := (Entails.of_eq (pts_scr d (cV L) (jV L) cc0_scratch3 _).symm) $$ Hb
  sl_step
  isplitl [Hi0 Hi1 Hi2 Ht0 Ht1 Ht2 Ho0 Ho1 Ho2]
  · isplitl [Hi0 Hi1 Hi2 Ht0 Ht1 Ht2]
    · isplitl [Hi0]; · iexact Hi0
      isplitl [Hi1]; · iexact Hi1
      isplitl [Hi2]; · iexact Hi2
      isplitl [Ht0]; · iexact Ht0
      isplitl [Ht1]; · iexact Ht1
      iexact Ht2
    isplitl [Ho0]; · iexact Ho0
    isplitl [Ho1]; · iexact Ho1
    iexact Ho2
  isplitl [Hs0 Hs1 Hs2 Hb Hbufs]
  · isplitl [Hs0 Hs1 Hs2 Hb]
    · isplitl [Hs0]; · iexists _; iexact Hs0
      isplitl [Hs1]; · iexists _; iexact Hs1
      isplitl [Hs2]; · iexists _; iexact Hs2
      iexists _; iexact Hb
    iexact Hbufs
  isplitl [Hg Hv0 Hv1 Hv2 Hv3 Hv4 Hv5 Hsems]
  · isplitl [Hg Hv0 Hv1 Hv2 Hv3 Hv4 Hv5]
    · isplitl [Hg]; · iexact Hg
      isplitl [Hv0]; · iexact Hv0
      isplitl [Hv1]; · iexact Hv1
      isplitl [Hv2]; · iexact Hv2
      isplitl [Hv3]; · iexact Hv3
      isplitl [Hv4]; · iexact Hv4
      iexact Hv5
    iexact Hsems
  iexists _; isplitr
  swap; · iexact HO
  ipureintro
  refine waits_trans (waits_trans (waits_trans ?_ hW0) hW1) hW2
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (F := F) (coordsV c s) (Memref.whole main_v3_scv) (Memref.isWhole_whole _) (Memref.whole main_v6_scv) (Memref.isWhole_whole _)
            (Memref.whole main_v9_scv) (Memref.isWhole_whole _) (Memref.whole main_v11_scv) (Memref.isWhole_whole _)
            (Memref.whole main_v13_scv) (Memref.isWhole_whole _) (Memref.whole main_v14_scv) (Memref.isWhole_whole _)
            (Memref.whole main_v15_0_scv) (Memref.isWhole_whole _) (Memref.whole main_v15_1_scv) (Memref.isWhole_whole _)
            (Memref.whole main_v15_2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hX : ∀ d, (X d).InRange) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) hF hX O W hO).trans (wp_mono frame _ _ fun _ => obl_post)

end Cert.Proof.Tile

end
-- ==== Proof.Host.lean ====
/-
  @main'S HOST OPERATIONS AS TWO STRAIGHT LINES.

  `ops1`: what @main computes before the SparseCore call — each column of the ids as a 128 by 128 array, and the first
  rows of each table widened to 128 columns. `ops2`: what it computes between that call and the perceptron's — the three
  row blocks of the first weight and the biases as rows. `main_eq`: @main is the one, the call, the other, the call.
-/
module

public import proofs.«01_k».proof.Proof.Setup
public import Idealize.ShloMosaic.Lib.StableHlo.Run
public import Idealize.ShloMosaic.Lib.Pipeline.Frame

@[expose] public section

noncomputable section

namespace Cert.Proof.Host

open Cert.KernelIdeal Cert.KernelIdeal.Gen
open Idealize.ShloMosaic Idealize.ShloMosaic.TcCoe Idealize.ShloMosaic.Tactic
open Idealize.SL Idealize.SL.Sem
open Cert.Proof.Setup

variable {F : FTy → Type} [FloatOps F]

/-- @main's operations before the SparseCore call. -/
def ops1 : List (HloOp τ sig (Elt F)) :=
  [StableHlo.unary main_arg0 main_v0 ((transpose S3x16384 [1, 0] · transposes_S16384x3_S3x16384_1_0) : (⟨S16384x3, .i32⟩ : BufTy).Contents (Elt F) → (⟨S3x16384, .i32⟩ : BufTy).Contents (Elt F)),
   StableHlo.unary main_v0 main_v1 ((extractStridedSlice S1x16384 ![0, 0] · slices_S3x16384_S1x16384_0_0) : (⟨S3x16384, .i32⟩ : BufTy).Contents (Elt F) → (⟨S1x16384, .i32⟩ : BufTy).Contents (Elt F)),
   StableHlo.reshape main_v1 main_v2 (rfl : (.i32 : EltTy) = .i32) shapeCasts_S1x16384_S16384,
   StableHlo.reshape main_v2 main_v3 (rfl : (.i32 : EltTy) = .i32) shapeCasts_S16384_S128x128,
   StableHlo.unary main_v0 main_v4 ((extractStridedSlice S1x16384 ![1, 0] · slices_S3x16384_S1x16384_1_0) : (⟨S3x16384, .i32⟩ : BufTy).Contents (Elt F) → (⟨S1x16384, .i32⟩ : BufTy).Contents (Elt F)),
   StableHlo.reshape main_v4 main_v5 (rfl : (.i32 : EltTy) = .i32) shapeCasts_S1x16384_S16384,
   StableHlo.reshape main_v5 main_v6 (rfl : (.i32 : EltTy) = .i32) shapeCasts_S16384_S128x128,
   StableHlo.unary main_v0 main_v7 ((extractStridedSlice S1x16384 ![2, 0] · slices_S3x16384_S1x16384_2_0) : (⟨S3x16384, .i32⟩ : BufTy).Contents (Elt F) → (⟨S1x16384, .i32⟩ : BufTy).Contents (Elt F)),
   StableHlo.reshape main_v7 main_v8 (rfl : (.i32 : EltTy) = .i32) shapeCasts_S1x16384_S16384,
   StableHlo.reshape main_v8 main_v9 (rfl : (.i32 : EltTy) = .i32) shapeCasts_S16384_S128x128,
   StableHlo.unary main_arg1 main_v10 ((extractStridedSlice S1024x64 ![0, 0] · slices_S100000x64_S1024x64_0_0) : (⟨S100000x64, .f32⟩ : BufTy).Contents (Elt F) → (⟨S1024x64, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v10 : StableHlo.TRef sig ⟨S1024x64, .f32⟩) main_call0.v0 main_call0.v1 (fun x v => pad S1024x128 ![0, 0] ![0, 64] ![0, 0] x v pads_S1024x64_S1024x128_000_0640 h_S_),
   StableHlo.unary main_arg2 main_v12 ((extractStridedSlice S1024x64 ![0, 0] · slices_S100000x64_S1024x64_0_0) : (⟨S100000x64, .f32⟩ : BufTy).Contents (Elt F) → (⟨S1024x64, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v12 : StableHlo.TRef sig ⟨S1024x64, .f32⟩) main_call1.v0 main_call1.v1 (fun x v => pad S1024x128 ![0, 0] ![0, 64] ![0, 0] x v pads_S1024x64_S1024x128_000_0640 h_S_),
   StableHlo.nullary main_c_1 (constantI S_ 32 0#32),
   StableHlo.TRef.unary (.of main_c_1 : StableHlo.TRef sig ⟨S_, .i32⟩) main_call2.v0 (sitofp .f32),
   StableHlo.TRef.binary (.of main_arg3 : StableHlo.TRef sig ⟨S1000x64, .f32⟩) main_call2.v0 main_call2.v1 (fun x v => pad S1000x128 ![0, 0] ![0, 64] ![0, 0] x v pads_S1000x64_S1000x128_000_0640 h_S_)]

/-- @main's operations between the two calls. -/
def ops2 : List (HloOp τ sig (Elt F)) :=
  [StableHlo.unary main_arg4 main_v16 ((extractStridedSlice S64x512 ![0, 0] · slices_S192x512_S64x512_0_0) : (⟨S192x512, .f32⟩ : BufTy).Contents (Elt F) → (⟨S64x512, .f32⟩ : BufTy).Contents (Elt F)),
   StableHlo.unary main_arg4 main_v17 ((extractStridedSlice S64x512 ![64, 0] · slices_S192x512_S64x512_64_0) : (⟨S192x512, .f32⟩ : BufTy).Contents (Elt F) → (⟨S64x512, .f32⟩ : BufTy).Contents (Elt F)),
   StableHlo.unary main_arg4 main_v18 ((extractStridedSlice S64x512 ![128, 0] · slices_S192x512_S64x512_128_0) : (⟨S192x512, .f32⟩ : BufTy).Contents (Elt F) → (⟨S64x512, .f32⟩ : BufTy).Contents (Elt F)),
   StableHlo.reshape main_arg5 main_v19 (rfl : (.f32 : EltTy) = .f32) shapeCasts_S512_S1x512,
   StableHlo.reshape main_arg7 main_v20 (rfl : (.f32 : EltTy) = .f32) shapeCasts_S256_S1x256,
   StableHlo.reshape main_arg9 main_v21 (rfl : (.f32 : EltTy) = .f32) shapeCasts_S128_S1x128,
   StableHlo.reshape main_arg10 main_v22 (rfl : (.f32 : EltTy) = .f32) shapeCasts_S128x1_S1x128,
   StableHlo.reshape main_arg11 main_v23 (rfl : (.f32 : EltTy) = .f32) shapeCasts_S1_S1x1]

theorem main_eq (d : Dev nD) : main (F := F) d = (StableHlo.seq ops1 >>= fun _ => sc.run d 0 >>= fun _ => StableHlo.seq ops2 >>= fun _ =>
    SparseCore.liftProg (Prog.op (.customCall (Pipeline.entry 0) ()) fun _ => Prog.ret ⟨⟩)) := by
  rfl

/-- Every operation of either line names TensorCore references only, none scoped, and allocates nothing. -/
theorem ops1_bufs : (ops1 (F := F)).Forall fun op => op.bufs ⊆ StableHlo.tcRefs τ sig :=
  ⟨StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
theorem ops2_bufs : (ops2 (F := F)).Forall fun op => op.bufs ⊆ StableHlo.tcRefs τ sig :=
  ⟨StableHlo.unary_bufs_sub .., StableHlo.unary_bufs_sub .., StableHlo.unary_bufs_sub .., StableHlo.reshape_bufs_sub .., StableHlo.reshape_bufs_sub .., StableHlo.reshape_bufs_sub .., StableHlo.reshape_bufs_sub .., StableHlo.reshape_bufs_sub ..⟩
theorem ops1_sub : ∀ op ∈ (ops1 (F := F)), op.bufs ⊆ Pipeline.ucRefs τ sig := fun op h =>
  Pipeline.sub_ucRefs op (List.forall_iff_forall_mem.mp ops1_bufs op h)
theorem ops2_sub : ∀ op ∈ (ops2 (F := F)), op.bufs ⊆ Pipeline.ucRefs τ sig := fun op h =>
  Pipeline.sub_ucRefs op (List.forall_iff_forall_mem.mp ops2_bufs op h)
theorem ops1_fr : (ops1 (F := F)).Forall fun op => op.fresh = ∅ :=
  ⟨rfl, rfl, rfl, rfl, rfl, rfl, rfl, rfl, rfl, rfl, rfl, rfl, rfl, rfl, rfl, rfl, rfl, rfl, rfl, rfl, rfl⟩
theorem ops2_fr : (ops2 (F := F)).Forall fun op => op.fresh = ∅ :=
  ⟨rfl, rfl, rfl, rfl, rfl, rfl, rfl, rfl⟩
theorem ops1_fresh : ∀ op ∈ (ops1 (F := F)), op.fresh = ∅ := List.forall_iff_forall_mem.mp ops1_fr
theorem ops2_fresh : ∀ op ∈ (ops2 (F := F)), op.fresh = ∅ := List.forall_iff_forall_mem.mp ops2_fr

end Cert.Proof.Host

end
-- ==== Proof.Main.lean ====
/-
  @main ON THE TENSORCORE.

  The buffers at each of @main's points, as functions of the launch memory: `V1` before the SparseCore call, `V2` after
  it, `V3` before the perceptron's, `V4` at the end. `X m d`: the SparseCore call's operands, read off `V1`.
  `hmain`: @main runs from the launch's resources to every buffer at `V4`.
-/
module

public import proofs.«01_k».proof.Proof.Region
public import proofs.«01_k».proof.Proof.Tile
public import proofs.«01_k».proof.Proof.Host

@[expose] public section

noncomputable section

namespace Cert.Proof.Main

open Cert.KernelIdeal Cert.KernelIdeal.Gen
open Idealize.ShloMosaic Idealize.ShloMosaic.TcCoe Idealize.ShloMosaic.Tactic
open Idealize.ShloMosaic.SparseCore.Cfg (HIx)
open Idealize.SL
open Idealize.SL.BI (sProp bigSep)
open scoped Idealize.SL.BI
open Idealize.SL.BI.BIBase Idealize.SL.BI.Laws Idealize.SL.Sem Idealize.SL.ProofMode
open Idealize.SL.RA
open Cert.Proof.Setup Cert.Proof.Region Cert.Proof.Host

variable {F : FTy → Type} [FloatOps F]

local notation "𝕄" => MT nD τ sig (HIx 1) (Elt F) ℕ UU ℕ

variable (m : (ℓ : Loc nD τ sig) → Buf (Elt F) ℓ)

/-! ## The buffers at each point -/

/-- A TensorCore reference as a device's buffer. -/
abbrev dv (r : Ref sig .tc) : DevRef τ sig := Proc.devRef .tc r

/-- Every buffer before the SparseCore call, -/
def V1 (d : Dev nD) : Valuation τ sig (Elt F) := StableHlo.after ops1 (StableHlo.launchContents m d)

/-- that call's operands, -/
def X (d : Dev nD) : Ops F where
  i0 := V1 m d (dv main_v3)
  i1 := V1 m d (dv main_v6)
  i2 := V1 m d (dv main_v9)
  t0 := V1 m d (dv main_v11)
  t1 := V1 m d (dv main_v13)
  t2 := V1 m d (dv main_v14)
  o0 := V1 m d (dv main_v15_0)
  o1 := V1 m d (dv main_v15_1)
  o2 := V1 m d (dv main_v15_2)

/-- every buffer after it, -/
def V2 (d : Dev nD) : Valuation τ sig (Elt F) :=
  Function.update (Function.update (Function.update (V1 m d) (dv main_v15_0) (X m d).r0) (dv main_v15_1) (X m d).r1) (dv main_v15_2) (X m d).r2

/-- before the perceptron's call, -/
def V3 (d : Dev nD) : Valuation τ sig (Elt F) := StableHlo.after ops2 (V2 m d)

/-- and at the end. -/
def V4 (d : Dev nD) : Valuation τ sig (Elt F) := Pipeline.afterRegion (dat (V3 m) d) (V3 m d)

theorem V2_0 (d : Dev nD) : V2 m d (dv main_v15_0) = (X m d).r0 := by
  unfold V2
  rw [Function.update_of_ne (by decide), Function.update_of_ne (by decide), Function.update_self]
theorem V2_1 (d : Dev nD) : V2 m d (dv main_v15_1) = (X m d).r1 := by
  unfold V2
  rw [Function.update_of_ne (by decide), Function.update_self]
theorem V2_2 (d : Dev nD) : V2 m d (dv main_v15_2) = (X m d).r2 := by
  unfold V2
  rw [Function.update_self]
theorem V2_of (d : Dev nD) (b : DevRef τ sig) (h0 : b ≠ dv main_v15_0) (h1 : b ≠ dv main_v15_1) (h2 : b ≠ dv main_v15_2) : V2 m d b = V1 m d b := by
  unfold V2
  rw [Function.update_of_ne h2, Function.update_of_ne h1, Function.update_of_ne h0]

/-! ## The SparseCore call's operands among the buffers -/

/-- The buffers the SparseCore call takes. -/
def scRefs : Finset (DevRef τ sig) :=
  {dv main_v3, dv main_v6, dv main_v9, dv main_v11, dv main_v13, dv main_v14, dv main_v15_0, dv main_v15_1, dv main_v15_2}

theorem scRefs_sub : scRefs ⊆ Pipeline.ucRefs τ sig := by
  intro b hb
  refine (?_ : ∀ b ∈ scRefs, b ∈ Pipeline.ucRefs τ sig) b hb
  decide

theorem held_sc (d : Dev nD) (W : Valuation τ sig (Elt F)) :
    (StableHlo.held (d.tc : Thread nD τ) scRefs W : sProp 𝕄)
      = iprop((i0Loc d ↦{fullShare} W (dv main_v3)) ∗ (i1Loc d ↦{fullShare} W (dv main_v6)) ∗ (i2Loc d ↦{fullShare} W (dv main_v9))
        ∗ (t0Loc d ↦{fullShare} W (dv main_v11)) ∗ (t1Loc d ↦{fullShare} W (dv main_v13)) ∗ (t2Loc d ↦{fullShare} W (dv main_v14))
        ∗ (o0Loc d ↦{fullShare} W (dv main_v15_0)) ∗ (o1Loc d ↦{fullShare} W (dv main_v15_1)) ∗ (o2Loc d ↦{fullShare} W (dv main_v15_2))) := by
  unfold StableHlo.held scRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), BI.bigSep_singleton]

/-- What the SparseCore call takes is the buffers at `V1`, -/
theorem take_sc (d : Dev nD) :
    (StableHlo.held (d.tc : Thread nD τ) scRefs (V1 m d) : sProp 𝕄) ⊢ iprop(readsAll (X m) d ∗ beforeAll (X m) d) := by
  rw [held_sc]
  iintro ⟨H1, H2, H3, H4, H5, H6, H7, H8, H9⟩
  isplitl [H1 H2 H3 H4 H5 H6]
  · isplitl [H1]; · iexact H1
    isplitl [H2]; · iexact H2
    isplitl [H3]; · iexact H3
    isplitl [H4]; · iexact H4
    isplitl [H5]; · iexact H5
    iexact H6
  · isplitl [H7]; · iexact H7
    isplitl [H8]; · iexact H8
    iexact H9

/-- and what it brings back the buffers at `V2`. -/
theorem give_sc (d : Dev nD) :
    iprop(readsAll (X m) d ∗ afterAll (X m) d) ⊢ (StableHlo.held (d.tc : Thread nD τ) scRefs (V2 m d) : sProp 𝕄) := by
  rw [held_sc, V2_0, V2_1, V2_2, V2_of m d (dv main_v3) (by decide) (by decide) (by decide), V2_of m d (dv main_v6) (by decide) (by decide) (by decide),
    V2_of m d (dv main_v9) (by decide) (by decide) (by decide), V2_of m d (dv main_v11) (by decide) (by decide) (by decide),
    V2_of m d (dv main_v13) (by decide) (by decide) (by decide), V2_of m d (dv main_v14) (by decide) (by decide) (by decide)]
  iintro ⟨⟨H1, H2, H3, H4, H5, H6⟩, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem rest_sc (d : Dev nD) :
    (StableHlo.held (d.tc : Thread nD τ) (Pipeline.ucRefs τ sig \ scRefs) (V1 m d) : sProp 𝕄)
      = StableHlo.held (d.tc : Thread nD τ) (Pipeline.ucRefs τ sig \ scRefs) (V2 m d) :=
  StableHlo.held_congr _ fun b hb => by
    have hn := (Finset.mem_sdiff.mp hb).2
    refine (V2_of m d b ?_ ?_ ?_).symm <;> rintro rfl <;> exact hn (by decide)

/-! ## @main -/

/-- The ghost state of the perceptron's region on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves: every unscoped buffer. -/
abbrev FIN (d : Dev nD) : sProp 𝕄 := StableHlo.held (d.tc : Thread nD τ) (Pipeline.ucRefs τ sig) (V4 m d)

/-- After the last call every recorded pair is low enough. -/
theorem below (d : Dev nD) (W : Waits sig (HIx 1)) (b : ℕ) (hb : 1 ≤ b) : (K (F := F)).WBelow (SparseCore.T d) W (8 * b) := by
  intro p _
  cases h : p.2 with
  | none => rw [SparseCore.Cfg.lev_none]; exact Nat.zero_le _
  | some q =>
    refine ((K (F := F)).lev_some_le _ q).trans ?_
    have := q.isLt
    omega

variable (ρ : Dev nD → PrngReg)

set_option backward.isDefEq.respectTransparency.types false in
/-- @main on device `d`: from the launch's resources to every unscoped buffer at `V4`. -/
theorem hmain [∀ e, Nonempty (Elt F e)] (κ : GSem nD τ sig → ℕ) (d : Dev nD) :
    iprop((K (F := F)).ctx EH (P (X m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
    = StableHlo.held (d.tc : Thread nD τ) (Pipeline.ucRefs τ sig) (StableHlo.launchContents m d) from
      Pipeline.unscopedBufs_held d (StableHlo.launchContents m d)]
  iintro ⟨#Hctx, Hst, ⟨Hb, Hu, Hts, -⟩, Hg, Htok⟩
  iapply (StableHlo.wp_seq 𝒱 none Set.univ d (Pipeline.ucRefs τ sig) _ ops1 ops1_sub ops1_fresh (StableHlo.launchContents m d)) $$ [Hb Hu]
  · isplitl [Hb]; · iexact Hb
    iexact Hu
  iintro ⟨Hb, Hu⟩
  ihave Hu := (Entails.of_eq (show (StableHlo.held (d.tc : Thread nD τ) (Pipeline.ucRefs τ sig) (StableHlo.after ops1 (StableHlo.launchContents m d)) : sProp 𝕄) = _
    from StableHlo.held_sub_split (d.tc : Thread nD τ) scRefs_sub (V1 m d))) $$ Hu
  icases Hu with ⟨Hsc, Hrest⟩
  ihave Hrest := (Entails.of_eq (rest_sc m d)) $$ Hrest
  rw [wp_bind]
  iapply ((K (F := F)).wp_run (D (F := F)) 𝒱 (EH := EH) (P := P (X m)) κ d 0)
  isplitr; · iexact Hctx
  isplitl [Hst]; · iexact Hst
  isplitl [Hsc]
  · rw [st_all]
    iapply (take_sc m d); iexact Hsc
  iintro ⟨Hst, Hdn⟩
  ihave Hsc := ((Entails.of_eq (dn_all (X m) d)).trans (give_sc m d)) $$ Hdn
  ihave Hu := (Entails.of_eq (StableHlo.held_sub_split (d.tc : Thread nD τ) scRefs_sub (V2 m d)).symm) $$ [Hsc Hrest]
  · isplitl [Hsc]; · iexact Hsc
    iexact Hrest
  iapply (StableHlo.wp_seq 𝒱 none Set.univ d (Pipeline.ucRefs τ sig) _ ops2 ops2_sub ops2_fresh (V2 m d)) $$ [Hb Hu]
  · isplitl [Hb]; · iexact Hb
    iexact Hu
  iintro ⟨Hb, Hu⟩
  iapply ((K (F := F)).wp_liftProg (D (F := F)) 𝒱 (SparseCore.T d) Set.univ none)
  ihave Hst := (Entails.of_eq (show ((K (F := F)).tcSt EH d ((0 : Fin 1).val + 1) : sProp 𝕄) = (K (F := F)).tcSt EH d 1 from rfl)) $$ Hst
  unfold SparseCore.Cfg.tcSt
  icases Hst with ⟨⟨%W, -, HO⟩, Hst⟩
  ihave HO := (Entails.of_eq (congrArg (fun o => owes (SparseCore.T d) o W) ((K (F := F)).Otc_end d (n := 1) le_rfl))) $$ HO
  iapply (region_wp (V3 m) d)
  isplitl [Hst Hts]
  · iintro ⟨Hb, Hu, %W', HO⟩
    rw [wp_ret]
    imodintro
    isplitl [Hst HO]
    · isplitl [HO]
      · iexists W'
        isplitr
        · ipureintro
          exact below d W' 1 le_rfl
        · iapply (Entails.of_eq (congrArg (fun o => owes (SparseCore.T d) o W') ((K (F := F)).Otc_end d (n := 1) le_rfl).symm)); iexact HO
      · iexact Hst
    · isplitl [Hu]; · unfold FIN V4; iexact Hu
      isplitl [Hb] <;> iassumption
  isplitl [Hb]; · iexact Hb
  isplitl [Hu]; · unfold V3; iexact Hu
  isplitl [HO]; · iexists W; iexact HO
  isplitr; · iapply ((K (F := F)).ctx_levAts (P := P (X m)) (EH := EH) κ); iexact Hctx
  isplitl [Hg]; · iexact Hg
  iexact Htok

end Cert.Proof.Main

end
-- ==== Proof.Run.lean ====
/-
  THE WHOLE LAUNCH.

  `run_main`: whatever the floats are, if every index of the SparseCore call names a row of every table, the program ends
  with every unscoped buffer of every device at `V4` and every semaphore at zero.
-/
module

public import proofs.«01_k».proof.Proof.Main

@[expose] public section

noncomputable section

namespace Cert.Proof.Run

open Cert.KernelIdeal Cert.KernelIdeal.Gen
open Idealize.ShloMosaic Idealize.ShloMosaic.TcCoe Idealize.ShloMosaic.Tactic
open Idealize.ShloMosaic.SparseCore.Cfg (HIx)
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Cert.Proof.Setup Cert.Proof.Region Cert.Proof.Main

variable {F : FTy → Type} [FloatOps F]

local notation "𝕄" => MT nD τ sig (HIx 1) (Elt F) ℕ UU ℕ

variable (m : (ℓ : Loc nD τ sig) → Buf (Elt F) ℓ) (ρ : Dev nD → PrngReg)

/-- The ghost state at launch: the handshakes' cells and tokens, the pipeline's, no transfer counted. -/
def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- The pipelines' ghost state, device by device. -/
theorem ghost_dev :
    iprop((bigSep Finset.univ fun c : Dev nD => bigSep Finset.univ fun p => (Pipeline.cellsGhost (Pipeline.pin (pcfgs (F := F)) adm) EP p c : sProp 𝕄))
      ∗ (bigSep Finset.univ fun c : Dev nD => bigSep Finset.univ fun p => Pipeline.toksInit (Pipeline.pin (pcfgs (F := F)) adm) EP p c))
    ⊢ (bigSep Finset.univ G : sProp 𝕄) := by
  unfold G
  rw [BI.bigSep_sep']
  exact sep_mono (Entails.of_eq (BI.bigSep_congr fun _ _ => BI.bigSep_univ_of_subsingleton (0 : Fin 1)))
    (Entails.of_eq (BI.bigSep_congr fun _ _ => BI.bigSep_univ_of_subsingleton (0 : Fin 1)))

omit [FloatOps F] in
theorem none_left : (bigSep Finset.univ fun _ : Thread nD τ => iprop(emp)) = (iprop(emp) : sProp 𝕄) := BI.bigSep_emp_const _

theorem hu₀ : (ownU (u₀ (F := F)) : sProp 𝕄)
    ⊢ |={Set.univ}=> iprop(BI.own (EH (initOf (K (F := F)).hsCells (K (F := F)).hsToks)) ∗ bigSep Finset.univ G
        ∗ bigSep Finset.univ fun thr : Thread nD τ => bigSep Finset.univ fun q : Fin 1 => (P (X m)).x q thr) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), 1) : UP × Counters)) $$ Hu
  icases H with ⟨HH, HP⟩
  ihave HP := (own_pair_emb (embR : Emb (UP × Counters) 𝕄) _ _) $$ HP
  icases HP with ⟨HP, -⟩
  imod (Pipeline.fund_ghost (Pipeline.pin (pcfgs (F := F)) adm) (EP (F := F)) cells_inj) $$ HP with ⟨Hg, Ht⟩
  imodintro
  isplitl [HH]; · iexact HH
  isplitl [Hg Ht]
  · iapply ghost_dev
    isplitl [Hg]; · iexact Hg
    iexact Ht
  rw [show (bigSep Finset.univ fun thr : Thread nD τ => bigSep Finset.univ fun q : Fin 1 => (P (X m)).x q thr) = bigSep Finset.univ fun _ => iprop(emp) from
    BI.bigSep_congr fun _ _ => BI.bigSep_univ_of_subsingleton (0 : Fin 1), none_left]
  iempintro

/-- What is read off the final state: every unscoped buffer. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := fun x hx b hb => by
  have one : iprop(FIN m d ∗ SI s') ⊢ (⌜∀ i ∈ (Finset.univ : Finset (Shape.Idx _)), s'.mem.mem (d, b) i = V4 m d b i⌝ : sProp 𝕄) := by
    refine (sep_mono_left (BI.bigSep_elim (Φ := fun b => ((d, b) ↦{fullShare} V4 m d b : sProp 𝕄)) hb)).trans ?_
    refine Entails.trans ?_ (SI_pointsTo_agree (st := s') (ℓ := (d, b)) (I := Finset.univ) (q := fullShare) (f := V4 m d b))
    iintro ⟨H, HSI⟩
    isplitl [HSI] <;> iassumption
  exact funext fun i => one x hx i (Finset.mem_univ i)

/-- The end of the launch. -/
def End : PUnit × MemSt nD τ sig (Elt F) → Prop := fun r =>
  (∀ d : Dev nD, ∀ b ∈ Pipeline.ucRefs τ sig, r.2.mem (d, b) = V4 m d b) ∧ r.2.sem = fun _ => 0

theorem run_main [∀ e, Nonempty (Elt F e)] (hX : ∀ d, (X m d).InRange) :
    θ_run (Cert.KernelIdeal.defs (F := F)) (Cert.KernelIdeal.threads (F := F)) ⟨m, fun _ => 0, ρ⟩ (End m) :=
  SparseCore.Cfg.θ_run_sc_quiescent (K := K (F := F)) (D := D (F := F)) (𝒱 := 𝒱) (EH := EH) (P := P (X m)) (A := ∅) facts v₀
    (fun q hq => match q with | 0 => nomatch hq)
    (fun q _ => match q with | 0 => Cert.Proof.Tile.tileObl (X m) facts hX)
    (fun q _ => match q with | 0 => SparseCore.Cfg.VecSplit.of_plain (vecSplit (X m)))
    m ρ main G (FIN m) (u₀ (F := F)) (sep_elim_left.trans (hu₀ m)) (hmain m ρ) (fq m) (hfin m) (End m) (fun _ h hz => ⟨h, hz⟩)

end Cert.Proof.Run

end
-- ==== Proof.Kept.lean ====
/-
  THE ARGUMENTS ARE KEPT.

  No host operation and neither kernel writes an argument: each ends as launched.
-/
module

public import proofs.«01_k».proof.Proof.Run

@[expose] public section

noncomputable section

namespace Cert.Proof.Kept

open Cert.KernelIdeal Cert.KernelIdeal.Gen
open Idealize.ShloMosaic Idealize.ShloMosaic.TcCoe Idealize.ShloMosaic.Tactic
open Cert.Proof.Setup Cert.Proof.Region Cert.Proof.Main Cert.Proof.Host

variable {F : FTy → Type} [FloatOps F]

variable (m : (ℓ : Loc nD τ sig) → Buf (Elt F) ℓ)

/-- The windows' arrays are distinct. -/
theorem arr_inj : Function.Injective (Pipeline.arrRef spec1) := by decide

/-- A buffer that is no output of the perceptron's kernel is after it as before. -/
theorem V4_keeps (d : Dev nD) (r : Ref sig .tc) (h : ∀ w, Pipeline.arrRef spec1 w = r → (cfg1.win w).isOut = false) :
    V4 m d (dv r) = V3 m d (dv r) :=
  Pipeline.afterRegion_keeps (dat (V3 m) d) (V3 m d) arr_inj (fun _ => rfl) r h

/-! ## The host operations before the SparseCore call -/

theorem V1_arg0 (d : Dev nD) : V1 m d (dv main_arg0) = m (d, dv main_arg0) := by
  show StableHlo.after ops1 (StableHlo.launchContents m d) (dv main_arg0) = _
  unfold ops1
  after_results
theorem V1_arg1 (d : Dev nD) : V1 m d (dv main_arg1) = m (d, dv main_arg1) := by
  show StableHlo.after ops1 (StableHlo.launchContents m d) (dv main_arg1) = _
  unfold ops1
  after_results
theorem V1_arg2 (d : Dev nD) : V1 m d (dv main_arg2) = m (d, dv main_arg2) := by
  show StableHlo.after ops1 (StableHlo.launchContents m d) (dv main_arg2) = _
  unfold ops1
  after_results
theorem V1_arg3 (d : Dev nD) : V1 m d (dv main_arg3) = m (d, dv main_arg3) := by
  show StableHlo.after ops1 (StableHlo.launchContents m d) (dv main_arg3) = _
  unfold ops1
  after_results
theorem V1_arg4 (d : Dev nD) : V1 m d (dv main_arg4) = m (d, dv main_arg4) := by
  show StableHlo.after ops1 (StableHlo.launchContents m d) (dv main_arg4) = _
  unfold ops1
  after_results
theorem V1_arg5 (d : Dev nD) : V1 m d (dv main_arg5) = m (d, dv main_arg5) := by
  show StableHlo.after ops1 (StableHlo.launchContents m d) (dv main_arg5) = _
  unfold ops1
  after_results
theorem V1_arg6 (d : Dev nD) : V1 m d (dv main_arg6) = m (d, dv main_arg6) := by
  show StableHlo.after ops1 (StableHlo.launchContents m d) (dv main_arg6) = _
  unfold ops1
  after_results
theorem V1_arg7 (d : Dev nD) : V1 m d (dv main_arg7) = m (d, dv main_arg7) := by
  show StableHlo.after ops1 (StableHlo.launchContents m d) (dv main_arg7) = _
  unfold ops1
  after_results
theorem V1_arg8 (d : Dev nD) : V1 m d (dv main_arg8) = m (d, dv main_arg8) := by
  show StableHlo.after ops1 (StableHlo.launchContents m d) (dv main_arg8) = _
  unfold ops1
  after_results
theorem V1_arg9 (d : Dev nD) : V1 m d (dv main_arg9) = m (d, dv main_arg9) := by
  show StableHlo.after ops1 (StableHlo.launchContents m d) (dv main_arg9) = _
  unfold ops1
  after_results
theorem V1_arg10 (d : Dev nD) : V1 m d (dv main_arg10) = m (d, dv main_arg10) := by
  show StableHlo.after ops1 (StableHlo.launchContents m d) (dv main_arg10) = _
  unfold ops1
  after_results
theorem V1_arg11 (d : Dev nD) : V1 m d (dv main_arg11) = m (d, dv main_arg11) := by
  show StableHlo.after ops1 (StableHlo.launchContents m d) (dv main_arg11) = _
  unfold ops1
  after_results

/-! ## The host operations between the calls -/

theorem V3_arg0 (d : Dev nD) : V3 m d (dv main_arg0) = m (d, dv main_arg0) := by
  refine Eq.trans ?_ ((V2_of m d _ (by decide) (by decide) (by decide)).trans (V1_arg0 m d))
  show StableHlo.after ops2 (V2 m d) (dv main_arg0) = _
  unfold ops2
  after_results
theorem V3_arg1 (d : Dev nD) : V3 m d (dv main_arg1) = m (d, dv main_arg1) := by
  refine Eq.trans ?_ ((V2_of m d _ (by decide) (by decide) (by decide)).trans (V1_arg1 m d))
  show StableHlo.after ops2 (V2 m d) (dv main_arg1) = _
  unfold ops2
  after_results
theorem V3_arg2 (d : Dev nD) : V3 m d (dv main_arg2) = m (d, dv main_arg2) := by
  refine Eq.trans ?_ ((V2_of m d _ (by decide) (by decide) (by decide)).trans (V1_arg2 m d))
  show StableHlo.after ops2 (V2 m d) (dv main_arg2) = _
  unfold ops2
  after_results
theorem V3_arg3 (d : Dev nD) : V3 m d (dv main_arg3) = m (d, dv main_arg3) := by
  refine Eq.trans ?_ ((V2_of m d _ (by decide) (by decide) (by decide)).trans (V1_arg3 m d))
  show StableHlo.after ops2 (V2 m d) (dv main_arg3) = _
  unfold ops2
  after_results
theorem V3_arg4 (d : Dev nD) : V3 m d (dv main_arg4) = m (d, dv main_arg4) := by
  refine Eq.trans ?_ ((V2_of m d _ (by decide) (by decide) (by decide)).trans (V1_arg4 m d))
  show StableHlo.after ops2 (V2 m d) (dv main_arg4) = _
  unfold ops2
  after_results
theorem V3_arg5 (d : Dev nD) : V3 m d (dv main_arg5) = m (d, dv main_arg5) := by
  refine Eq.trans ?_ ((V2_of m d _ (by decide) (by decide) (by decide)).trans (V1_arg5 m d))
  show StableHlo.after ops2 (V2 m d) (dv main_arg5) = _
  unfold ops2
  after_results
theorem V3_arg6 (d : Dev nD) : V3 m d (dv main_arg6) = m (d, dv main_arg6) := by
  refine Eq.trans ?_ ((V2_of m d _ (by decide) (by decide) (by decide)).trans (V1_arg6 m d))
  show StableHlo.after ops2 (V2 m d) (dv main_arg6) = _
  unfold ops2
  after_results
theorem V3_arg7 (d : Dev nD) : V3 m d (dv main_arg7) = m (d, dv main_arg7) := by
  refine Eq.trans ?_ ((V2_of m d _ (by decide) (by decide) (by decide)).trans (V1_arg7 m d))
  show StableHlo.after ops2 (V2 m d) (dv main_arg7) = _
  unfold ops2
  after_results
theorem V3_arg8 (d : Dev nD) : V3 m d (dv main_arg8) = m (d, dv main_arg8) := by
  refine Eq.trans ?_ ((V2_of m d _ (by decide) (by decide) (by decide)).trans (V1_arg8 m d))
  show StableHlo.after ops2 (V2 m d) (dv main_arg8) = _
  unfold ops2
  after_results
theorem V3_arg9 (d : Dev nD) : V3 m d (dv main_arg9) = m (d, dv main_arg9) := by
  refine Eq.trans ?_ ((V2_of m d _ (by decide) (by decide) (by decide)).trans (V1_arg9 m d))
  show StableHlo.after ops2 (V2 m d) (dv main_arg9) = _
  unfold ops2
  after_results
theorem V3_arg10 (d : Dev nD) : V3 m d (dv main_arg10) = m (d, dv main_arg10) := by
  refine Eq.trans ?_ ((V2_of m d _ (by decide) (by decide) (by decide)).trans (V1_arg10 m d))
  show StableHlo.after ops2 (V2 m d) (dv main_arg10) = _
  unfold ops2
  after_results
theorem V3_arg11 (d : Dev nD) : V3 m d (dv main_arg11) = m (d, dv main_arg11) := by
  refine Eq.trans ?_ ((V2_of m d _ (by decide) (by decide) (by decide)).trans (V1_arg11 m d))
  show StableHlo.after ops2 (V2 m d) (dv main_arg11) = _
  unfold ops2
  after_results

/-! ## The end -/

theorem V4_arg0 (d : Dev nD) : V4 m d (dv main_arg0) = m (d, dv main_arg0) := (V4_keeps m d main_arg0 (by decide)).trans (V3_arg0 m d)
theorem V4_arg1 (d : Dev nD) : V4 m d (dv main_arg1) = m (d, dv main_arg1) := (V4_keeps m d main_arg1 (by decide)).trans (V3_arg1 m d)
theorem V4_arg2 (d : Dev nD) : V4 m d (dv main_arg2) = m (d, dv main_arg2) := (V4_keeps m d main_arg2 (by decide)).trans (V3_arg2 m d)
theorem V4_arg3 (d : Dev nD) : V4 m d (dv main_arg3) = m (d, dv main_arg3) := (V4_keeps m d main_arg3 (by decide)).trans (V3_arg3 m d)
theorem V4_arg4 (d : Dev nD) : V4 m d (dv main_arg4) = m (d, dv main_arg4) := (V4_keeps m d main_arg4 (by decide)).trans (V3_arg4 m d)
theorem V4_arg5 (d : Dev nD) : V4 m d (dv main_arg5) = m (d, dv main_arg5) := (V4_keeps m d main_arg5 (by decide)).trans (V3_arg5 m d)
theorem V4_arg6 (d : Dev nD) : V4 m d (dv main_arg6) = m (d, dv main_arg6) := (V4_keeps m d main_arg6 (by decide)).trans (V3_arg6 m d)
theorem V4_arg7 (d : Dev nD) : V4 m d (dv main_arg7) = m (d, dv main_arg7) := (V4_keeps m d main_arg7 (by decide)).trans (V3_arg7 m d)
theorem V4_arg8 (d : Dev nD) : V4 m d (dv main_arg8) = m (d, dv main_arg8) := (V4_keeps m d main_arg8 (by decide)).trans (V3_arg8 m d)
theorem V4_arg9 (d : Dev nD) : V4 m d (dv main_arg9) = m (d, dv main_arg9) := (V4_keeps m d main_arg9 (by decide)).trans (V3_arg9 m d)
theorem V4_arg10 (d : Dev nD) : V4 m d (dv main_arg10) = m (d, dv main_arg10) := (V4_keeps m d main_arg10 (by decide)).trans (V3_arg10 m d)
theorem V4_arg11 (d : Dev nD) : V4 m d (dv main_arg11) = m (d, dv main_arg11) := (V4_keeps m d main_arg11 (by decide)).trans (V3_arg11 m d)

/-- What the end of the launch says of the arguments. -/
theorem End_args {r : PUnit × MemSt nD τ sig (Elt F)} (h : Cert.Proof.Run.End m r) (c : Dev nD) :
      r.2.mem (c, dv main_arg0) = m (c, dv main_arg0)
      ∧ r.2.mem (c, dv main_arg1) = m (c, dv main_arg1)
      ∧ r.2.mem (c, dv main_arg2) = m (c, dv main_arg2)
      ∧ r.2.mem (c, dv main_arg3) = m (c, dv main_arg3)
      ∧ r.2.mem (c, dv main_arg4) = m (c, dv main_arg4)
      ∧ r.2.mem (c, dv main_arg5) = m (c, dv main_arg5)
      ∧ r.2.mem (c, dv main_arg6) = m (c, dv main_arg6)
      ∧ r.2.mem (c, dv main_arg7) = m (c, dv main_arg7)
      ∧ r.2.mem (c, dv main_arg8) = m (c, dv main_arg8)
      ∧ r.2.mem (c, dv main_arg9) = m (c, dv main_arg9)
      ∧ r.2.mem (c, dv main_arg10) = m (c, dv main_arg10)
      ∧ r.2.mem (c, dv main_arg11) = m (c, dv main_arg11) :=
  ⟨(h.1 c _ (by decide)).trans (V4_arg0 m c),
    (h.1 c _ (by decide)).trans (V4_arg1 m c),
    (h.1 c _ (by decide)).trans (V4_arg2 m c),
    (h.1 c _ (by decide)).trans (V4_arg3 m c),
    (h.1 c _ (by decide)).trans (V4_arg4 m c),
    (h.1 c _ (by decide)).trans (V4_arg5 m c),
    (h.1 c _ (by decide)).trans (V4_arg6 m c),
    (h.1 c _ (by decide)).trans (V4_arg7 m c),
    (h.1 c _ (by decide)).trans (V4_arg8 m c),
    (h.1 c _ (by decide)).trans (V4_arg9 m c),
    (h.1 c _ (by decide)).trans (V4_arg10 m c),
    (h.1 c _ (by decide)).trans (V4_arg11 m c)⟩

end Cert.Proof.Kept

end
-- ==== Proof.Ids.lean ====
/-
  THE PRECONDITION READ BACK: every id lies in [0, 1000).
-/
module

public import proofs.«01_k».proof.Pre_ids_in_vocab
public import proofs.«01_k».proof.Proof.Gen.Pre_ids_in_vocab
public import Idealize.ShloMosaic.Lib.ReduceAll
public import Idealize.ShloMosaic.Lib.StableHlo.Predicate

@[expose] public section

noncomputable section

namespace Cert.Proof.Ids

open Cert.Pre_ids_in_vocab
open Idealize.ShloMosaic

/-- A word that is at least 0 and below 1000, both read signed, is below 1000 read unsigned. -/
theorem lt_of_bits {w : BitVec 32} (h : IntOp.andi (IntOp.cmpi .sge w 0#32) (IntOp.cmpi .slt w 1000#32) = 1#1) : w.toNat < 1000 := by
  obtain ⟨h0, h1⟩ := IntOp.andi_eq_one.1 h
  rw [IntOp.cmpi_sge] at h0
  rw [IntOp.cmpi_slt] at h1
  rw [show (0#32 : BitVec 32).toInt = 0 from rfl] at h0
  rw [show (1000#32 : BitVec 32).toInt = 1000 from rfl] at h1
  rw [BitVec.toInt_eq_toNat_cond] at h0 h1
  split at h0 <;> split at h1 <;> omega

/-- `ids_in_vocab` bounds every id. -/
theorem lt {F : FTy → Type} [FloatOps F] [Facts] (a0 : IVec S16384x3 32) (a1 a2 : FVec F S100000x64 .f32) (a3 : FVec F S1000x64 .f32)
    (a4 : FVec F S192x512 .f32) (a5 : FVec F S512 .f32) (a6 : FVec F S512x256 .f32) (a7 : FVec F S256 .f32) (a8 : FVec F S256x128 .f32)
    (a9 : FVec F S128 .f32) (a10 : FVec F S128x1 .f32) (a11 : FVec F S1 .f32)
    (h : fn (F := F) a0 a1 a2 a3 a4 a5 a6 a7 a8 a9 a10 a11 = fun _ => 1#1) (i : S16384x3.Idx) : (a0 i).toNat < 1000 := by
  have : Subsingleton S_.Idx := ⟨fun a b => funext fun x => x.elim0⟩
  have hs := congrFun h (fun x => x.elim0)
  exact lt_of_bits (Host.reduce_andi_all _ _ _ _ _ hs i)

end Cert.Proof.Ids

end
-- ==== Proof.Same.lean ====
/-
  THE KERNEL AND ITS IDEAL FORM ARE ONE PROGRAM.

  The two are printed with the same text under two names, so the run proved of the one is the run of the other. The
  equality is by computation, shown in pieces: the body tables label by label (`bodies`), and the two host programs as one
  function `host` of the label signature, the pipelines and the SparseCore calls (`host_k`, `host_ki`). `run_same` joins
  them.
-/
module

public import proofs.«01_k».proof.Proof.Gen.Kernel
public import proofs.«01_k».proof.Kernel
public import proofs.«01_k».proof.Proof.Host

@[expose] public section

noncomputable section

namespace Cert.Proof.Same

open Idealize.ShloMosaic Idealize.ShloMosaic.TcCoe Idealize.SL Idealize.SL.Sem
open Cert.KernelIdeal (nD τ sig)
open Cert.Proof.Host

variable {F : FTy → Type} [FloatOps F]

/-! ## The bodies -/

theorem body_gather (c s a) : Cert.Kernel.defs₀ (F := F) (.scVector c s) (0 : Fin 2) a = Cert.KernelIdeal.defs₀ (F := F) (.scVector c s) (0 : Fin 2) a := by rfl
theorem body_mlp (a) : Cert.Kernel.defs₀ (F := F) .tc (1 : Fin 2) a = Cert.KernelIdeal.defs₀ (F := F) .tc (1 : Fin 2) a := by rfl
theorem body_tc (a) : Cert.Kernel.defs₀ (F := F) .tc (0 : Fin 2) a = Cert.KernelIdeal.defs₀ (F := F) .tc (0 : Fin 2) a := by rfl
theorem body_vector (c s a) : Cert.Kernel.defs₀ (F := F) (.scVector c s) (1 : Fin 2) a = Cert.KernelIdeal.defs₀ (F := F) (.scVector c s) (1 : Fin 2) a := by rfl
theorem body_scalar0 (c a) : Cert.Kernel.defs₀ (F := F) (.scScalar c) (0 : Fin 2) a = Cert.KernelIdeal.defs₀ (F := F) (.scScalar c) (0 : Fin 2) a := by rfl
theorem body_scalar1 (c a) : Cert.Kernel.defs₀ (F := F) (.scScalar c) (1 : Fin 2) a = Cert.KernelIdeal.defs₀ (F := F) (.scScalar c) (1 : Fin 2) a := by rfl

theorem bodies : Cert.Kernel.defs₀ (F := F) = Cert.KernelIdeal.defs₀ (F := F) := by
  funext p l a
  match p, l, a with
  | .tc, (0 : Fin 2), a => exact body_tc a
  | .tc, (1 : Fin 2), a => exact body_mlp a
  | .scVector c s, (0 : Fin 2), a => exact body_gather c s a
  | .scVector c s, (1 : Fin 2), a => exact body_vector c s a
  | .scScalar c, (0 : Fin 2), a => exact body_scalar0 c a
  | .scScalar c, (1 : Fin 2), a => exact body_scalar1 c a

/-! ## The host programs -/

/-- The host program, of the label signature it runs over, its pipelines and its SparseCore calls. -/
def host (Λ : Labels) (pc : Fin 1 → Pipeline.PCfg sig Λ (Elt F)) (sc : SparseCore.Cfg τ sig (Pipeline.Sig Λ (Fin 1) fun p => (pc p).Adm) 1)
    (e : (Pipeline.Sig Λ (Fin 1) fun p => (pc p).Adm).Args (Pipeline.entry 0)) (d : Dev nD) :
    Prog (TpuEff nD τ sig (Elt F) (SparseCore.Sig (Pipeline.Sig Λ (Fin 1) fun p => (pc p).Adm) 1) .tc) PUnit :=
  StableHlo.seq ops1 >>= fun _ => sc.run d 0 >>= fun _ => StableHlo.seq ops2 >>= fun _ =>
    SparseCore.liftProg (Prog.op (.customCall (Pipeline.entry 0) e) fun _ => Prog.ret ⟨⟩)

theorem main_k (d : Dev nD) : Cert.Kernel.main (F := F) d =
    ((StableHlo.seq (nD := Cert.Kernel.nD) (τ := Cert.Kernel.τ) (sig := Cert.Kernel.sig) (Val := Elt F) ops1) >>= fun _ => Cert.Kernel.sc.run d 0 >>= fun _ =>
      StableHlo.seq (nD := Cert.Kernel.nD) (τ := Cert.Kernel.τ) (sig := Cert.Kernel.sig) (Val := Elt F) ops2 >>= fun _ =>
      SparseCore.liftProg (Prog.op (.customCall (Pipeline.entry 0) ()) fun _ => Prog.ret ⟨⟩)) := by
  exact rfl

theorem host_k : Cert.Kernel.main (F := F) = host Cert.Kernel.Λ₀ Cert.Kernel.pcfgs Cert.Kernel.sc () := by
  funext d
  refine (main_k d).trans ?_
  unfold host
  exact rfl
theorem host_ki : Cert.KernelIdeal.main (F := F) = host Cert.KernelIdeal.Λ₀ Cert.KernelIdeal.pcfgs Cert.KernelIdeal.sc () := by
  funext d
  exact main_eq d

/-! ## The runs -/

/-- The ideal form's launch is the kernel's. -/
theorem run_same (s : MemSt nD τ sig (Elt F)) :
    θ_run (Cert.Kernel.defs (F := F)) (Cert.Kernel.threads (F := F)) s = θ_run (Cert.KernelIdeal.defs (F := F)) (Cert.KernelIdeal.threads (F := F)) s := by
  unfold Cert.Kernel.defs Cert.KernelIdeal.defs Cert.Kernel.threads Cert.KernelIdeal.threads
  rw [host_k, host_ki, ← bodies]
  exact rfl

end Cert.Proof.Same

end
-- ==== Proof.Net.lean ====
/-
  WHAT A SCORE IS.

  `net r`: sample `r`'s score, as one formula of the twelve arguments over the extended reals. Its first layer contracts
  the three embeddings' 64 columns with the three 64-row blocks of the first weight, which is how the kernel computes it;
  the reference contracts the 192 joined columns with the whole weight, and Proof/RefVal.lean cuts that sum in three.
-/
module

public import Idealize.ShloMosaic.Lib.Pointwise

@[expose] public section

noncomputable section

namespace Cert.Proof.Net

open Idealize.ShloMosaic

/-- Column `q` of the row of table `E` that sample `r` names in column `k` of the ids; the row's number is taken modulo
    the table's height, which changes no number below it. -/
def emb {α : Type} {n : Nat} (hn : 0 < n) (E : (⟨2, ![n, 64]⟩ : Shape).Idx → α) (x : (⟨2, ![16384, 3]⟩ : Shape).Idx → BitVec 32)
    (k : Fin 3) (r : Fin 16384) (q : Fin 64) : α :=
  E (ix2 ⟨(x (ix2 r k)).toNat % n, Nat.mod_lt _ hn⟩ q)

/-- Row `64 k + q` of the first weight. -/
def row (k : Fin 3) (q : Fin 64) : Fin 192 := ⟨64 * k.val + q.val, by have := k.isLt; have := q.isLt; omega⟩

/-- The first layer's contraction of one embedding with its block of the weight, at hidden column `a`. -/
def first {n : Nat} (hn : 0 < n) (E : (⟨2, ![n, 64]⟩ : Shape).Idx → Ideal .f32) (x : (⟨2, ![16384, 3]⟩ : Shape).Idx → BitVec 32)
    (W : (⟨2, ![192, 512]⟩ : Shape).Idx → Ideal .f32) (k : Fin 3) (r : Fin 16384) (a : Fin 512) : Ideal .f32 :=
  ∑ q : Fin 64, emb hn E x k r q * W (ix2 (row k q) a)

/-- Sample `r`'s score. -/
def net (x : (⟨2, ![16384, 3]⟩ : Shape).Idx → BitVec 32)
    (E0 E1 : (⟨2, ![100000, 64]⟩ : Shape).Idx → Ideal .f32) (E2 : (⟨2, ![1000, 64]⟩ : Shape).Idx → Ideal .f32)
    (W1 : (⟨2, ![192, 512]⟩ : Shape).Idx → Ideal .f32) (b1 : (⟨1, ![512]⟩ : Shape).Idx → Ideal .f32)
    (W2 : (⟨2, ![512, 256]⟩ : Shape).Idx → Ideal .f32) (b2 : (⟨1, ![256]⟩ : Shape).Idx → Ideal .f32)
    (W3 : (⟨2, ![256, 128]⟩ : Shape).Idx → Ideal .f32) (b3 : (⟨1, ![128]⟩ : Shape).Idx → Ideal .f32)
    (Wl : (⟨2, ![128, 1]⟩ : Shape).Idx → Ideal .f32) (bl : (⟨1, ![1]⟩ : Shape).Idx → Ideal .f32) (r : Fin 16384) : Ideal .f32 :=
  ∑ e : Fin 128, Ideal.tanh (∑ c : Fin 256, Ideal.tanh (∑ a : Fin 512,
    Ideal.tanh (first (by decide) E0 x W1 0 r a + first (by decide) E1 x W1 1 r a + first (by decide) E2 x W1 2 r a + b1 (ix1 a))
      * W2 (ix2 a c) + b2 (ix1 c)) * W3 (ix2 c e) + b3 (ix1 e)) * Wl (ix2 e 0) + bl (ix1 0)

end Cert.Proof.Net

end
-- ==== Proof.Blocks.lean ====
/-
  THE PERCEPTRON'S BLOCKS AND ITS OUTPUT ARRAY.

  Point `t` reads rows `2048t …` of the three looked-up arrays and the whole of every weight and bias, and writes rows
  `2048t …` of the scores. `V4_out`: the scores, row by row, as the body's function of those.
-/
module

public import proofs.«01_k».proof.Proof.Kept

@[expose] public section

noncomputable section

namespace Cert.Proof.Blocks

open Cert.KernelIdeal Cert.KernelIdeal.Gen
open Idealize.ShloMosaic Idealize.ShloMosaic.TcCoe Idealize.ShloMosaic.Tactic
open Cert.Proof.Setup Cert.Proof.Body Cert.Proof.Region Cert.Proof.Main Cert.Proof.Host

variable {F : FTy → Type} [FloatOps F]

/-- Rows `2048 t …` of an array of 16384 rows. -/
def rows {α : Type} (t : Fin 8) (A : S16384x128.Idx → α) : S2048x128.Idx → α := fun j =>
  A (Shape.pair (d := ![16384, 128]) ⟨t.val * 2048 + (j 0).val, by have := (j 0).isLt; have := t.isLt; change (j 0).val < 2048 at *; show _ < 16384; omega⟩ (j 1))

/-- Each window's block index: the point's number down the rows, or zero. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_13 : ∀ t : Fin cfg1.N, win1_13.index t (0 : Fin 2) = t.val ∧ win1_13.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = 0 ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)
theorem idx_10 : ∀ t : Fin cfg1.N, win1_10.index t (0 : Fin 2) = 0 ∧ win1_10.index t (1 : Fin 2) = 0 :=
  (by decide +kernel : ∀ t : Fin grid1.N, _)
theorem idx_11 : ∀ t : Fin cfg1.N, win1_11.index t (0 : Fin 2) = 0 ∧ win1_11.index t (1 : Fin 2) = 0 :=
  (by decide +kernel : ∀ t : Fin grid1.N, _)
theorem idx_12 : ∀ t : Fin cfg1.N, win1_12.index t (0 : Fin 2) = 0 ∧ win1_12.index t (1 : Fin 2) = 0 :=
  (by decide +kernel : ∀ t : Fin grid1.N, _)

variable (V : Dev nD → Valuation τ sig (Elt F))

/-! ## What a point reads -/

theorem iblk_0 (c : Dev nD) (t : Fin cfg1.N) : (iblk V c 0 t : S2048x128.Idx → Elt F .f32) = rows (t.cast N_1) (V c (dv main_v15_0)) := by
  obtain ⟨e0, e1⟩ := idx_0 t
  funext j
  refine congrArg (V c (dv main_v15_0)) (funext fun a => Fin.ext ?_)
  match a with
  | ⟨0, _⟩ => show win1_0.index t (0 : Fin 2) * 2048 + 1 * (j 0).val = t.val * 2048 + (j 0).val; omega
  | ⟨1, _⟩ => show win1_0.index t (1 : Fin 2) * 128 + 1 * (j 1).val = (j 1).val; omega
theorem iblk_1 (c : Dev nD) (t : Fin cfg1.N) : (iblk V c 1 t : S2048x128.Idx → Elt F .f32) = rows (t.cast N_1) (V c (dv main_v15_1)) := by
  obtain ⟨e0, e1⟩ := idx_1 t
  funext j
  refine congrArg (V c (dv main_v15_1)) (funext fun a => Fin.ext ?_)
  match a with
  | ⟨0, _⟩ => show win1_1.index t (0 : Fin 2) * 2048 + 1 * (j 0).val = t.val * 2048 + (j 0).val; omega
  | ⟨1, _⟩ => show win1_1.index t (1 : Fin 2) * 128 + 1 * (j 1).val = (j 1).val; omega
theorem iblk_2 (c : Dev nD) (t : Fin cfg1.N) : (iblk V c 2 t : S2048x128.Idx → Elt F .f32) = rows (t.cast N_1) (V c (dv main_v15_2)) := by
  obtain ⟨e0, e1⟩ := idx_2 t
  funext j
  refine congrArg (V c (dv main_v15_2)) (funext fun a => Fin.ext ?_)
  match a with
  | ⟨0, _⟩ => show win1_2.index t (0 : Fin 2) * 2048 + 1 * (j 0).val = t.val * 2048 + (j 0).val; omega
  | ⟨1, _⟩ => show win1_2.index t (1 : Fin 2) * 128 + 1 * (j 1).val = (j 1).val; omega
theorem iblk_3 (c : Dev nD) (t : Fin cfg1.N) : (iblk V c 3 t : S64x512.Idx → Elt F .f32) = V c (dv main_v16) := by
  obtain ⟨e0, e1⟩ := idx_3 t
  funext j
  refine congrArg (V c (dv main_v16)) (funext fun a => Fin.ext ?_)
  match a with
  | ⟨0, _⟩ => show win1_3.index t (0 : Fin 2) * 64 + 1 * (j 0).val = (j 0).val; omega
  | ⟨1, _⟩ => show win1_3.index t (1 : Fin 2) * 512 + 1 * (j 1).val = (j 1).val; omega
theorem iblk_4 (c : Dev nD) (t : Fin cfg1.N) : (iblk V c 4 t : S64x512.Idx → Elt F .f32) = V c (dv main_v17) := by
  obtain ⟨e0, e1⟩ := idx_4 t
  funext j
  refine congrArg (V c (dv main_v17)) (funext fun a => Fin.ext ?_)
  match a with
  | ⟨0, _⟩ => show win1_4.index t (0 : Fin 2) * 64 + 1 * (j 0).val = (j 0).val; omega
  | ⟨1, _⟩ => show win1_4.index t (1 : Fin 2) * 512 + 1 * (j 1).val = (j 1).val; omega
theorem iblk_5 (c : Dev nD) (t : Fin cfg1.N) : (iblk V c 5 t : S64x512.Idx → Elt F .f32) = V c (dv main_v18) := by
  obtain ⟨e0, e1⟩ := idx_5 t
  funext j
  refine congrArg (V c (dv main_v18)) (funext fun a => Fin.ext ?_)
  match a with
  | ⟨0, _⟩ => show win1_5.index t (0 : Fin 2) * 64 + 1 * (j 0).val = (j 0).val; omega
  | ⟨1, _⟩ => show win1_5.index t (1 : Fin 2) * 512 + 1 * (j 1).val = (j 1).val; omega
theorem iblk_6 (c : Dev nD) (t : Fin cfg1.N) : (iblk V c 6 t : S1x512.Idx → Elt F .f32) = V c (dv main_v19) := by
  obtain ⟨e0, e1⟩ := idx_6 t
  funext j
  refine congrArg (V c (dv main_v19)) (funext fun a => Fin.ext ?_)
  match a with
  | ⟨0, _⟩ => show win1_6.index t (0 : Fin 2) * 1 + 1 * (j 0).val = (j 0).val; omega
  | ⟨1, _⟩ => show win1_6.index t (1 : Fin 2) * 512 + 1 * (j 1).val = (j 1).val; omega
theorem iblk_7 (c : Dev nD) (t : Fin cfg1.N) : (iblk V c 7 t : S512x256.Idx → Elt F .f32) = V c (dv main_arg6) := by
  obtain ⟨e0, e1⟩ := idx_7 t
  funext j
  refine congrArg (V c (dv main_arg6)) (funext fun a => Fin.ext ?_)
  match a with
  | ⟨0, _⟩ => show win1_7.index t (0 : Fin 2) * 512 + 1 * (j 0).val = (j 0).val; omega
  | ⟨1, _⟩ => show win1_7.index t (1 : Fin 2) * 256 + 1 * (j 1).val = (j 1).val; omega
theorem iblk_8 (c : Dev nD) (t : Fin cfg1.N) : (iblk V c 8 t : S1x256.Idx → Elt F .f32) = V c (dv main_v20) := by
  obtain ⟨e0, e1⟩ := idx_8 t
  funext j
  refine congrArg (V c (dv main_v20)) (funext fun a => Fin.ext ?_)
  match a with
  | ⟨0, _⟩ => show win1_8.index t (0 : Fin 2) * 1 + 1 * (j 0).val = (j 0).val; omega
  | ⟨1, _⟩ => show win1_8.index t (1 : Fin 2) * 256 + 1 * (j 1).val = (j 1).val; omega
theorem iblk_9 (c : Dev nD) (t : Fin cfg1.N) : (iblk V c 9 t : S256x128.Idx → Elt F .f32) = V c (dv main_arg8) := by
  obtain ⟨e0, e1⟩ := idx_9 t
  funext j
  refine congrArg (V c (dv main_arg8)) (funext fun a => Fin.ext ?_)
  match a with
  | ⟨0, _⟩ => show win1_9.index t (0 : Fin 2) * 256 + 1 * (j 0).val = (j 0).val; omega
  | ⟨1, _⟩ => show win1_9.index t (1 : Fin 2) * 128 + 1 * (j 1).val = (j 1).val; omega
theorem iblk_10 (c : Dev nD) (t : Fin cfg1.N) : (iblk V c 10 t : S1x128.Idx → Elt F .f32) = V c (dv main_v21) := by
  obtain ⟨e0, e1⟩ := idx_10 t
  funext j
  refine congrArg (V c (dv main_v21)) (funext fun a => Fin.ext ?_)
  match a with
  | ⟨0, _⟩ => show win1_10.index t (0 : Fin 2) * 1 + 1 * (j 0).val = (j 0).val; omega
  | ⟨1, _⟩ => show win1_10.index t (1 : Fin 2) * 128 + 1 * (j 1).val = (j 1).val; omega
theorem iblk_11 (c : Dev nD) (t : Fin cfg1.N) : (iblk V c 11 t : S1x128.Idx → Elt F .f32) = V c (dv main_v22) := by
  obtain ⟨e0, e1⟩ := idx_11 t
  funext j
  refine congrArg (V c (dv main_v22)) (funext fun a => Fin.ext ?_)
  match a with
  | ⟨0, _⟩ => show win1_11.index t (0 : Fin 2) * 1 + 1 * (j 0).val = (j 0).val; omega
  | ⟨1, _⟩ => show win1_11.index t (1 : Fin 2) * 128 + 1 * (j 1).val = (j 1).val; omega
theorem iblk_12 (c : Dev nD) (t : Fin cfg1.N) : (iblk V c 12 t : S1x1.Idx → Elt F .f32) = V c (dv main_v23) := by
  obtain ⟨e0, e1⟩ := idx_12 t
  funext j
  refine congrArg (V c (dv main_v23)) (funext fun a => Fin.ext ?_)
  match a with
  | ⟨0, _⟩ => show win1_12.index t (0 : Fin 2) * 1 + 1 * (j 0).val = (j 0).val; omega
  | ⟨1, _⟩ => show win1_12.index t (1 : Fin 2) * 1 + 1 * (j 1).val = (j 1).val; omega

/-- The block of scores of point `t`, of the arrays. -/
def scores (c : Dev nD) (t : Fin 8) : S2048x1.Idx → Elt F .f32 :=
  blockOut (rows t (V c (dv main_v15_0))) (rows t (V c (dv main_v15_1))) (rows t (V c (dv main_v15_2))) (V c (dv main_v16)) (V c (dv main_v17)) (V c (dv main_v18)) (V c (dv main_v19)) (V c (dv main_arg6)) (V c (dv main_v20)) (V c (dv main_arg8)) (V c (dv main_v21)) (V c (dv main_v22)) (V c (dv main_v23))

theorem oblk_eq (c : Dev nD) (t : Fin cfg1.N) : oblk V c t = scores V c (t.cast N_1) := by
  unfold oblk scores
  rw [iblk_0, iblk_1, iblk_2, iblk_3, iblk_4, iblk_5, iblk_6, iblk_7, iblk_8, iblk_9, iblk_10, iblk_11, iblk_12]

/-! ## The output -/

/-- The array of scores: row `r` from point `r / 2048`. -/
def all (c : Dev nD) : S16384x1.Idx → Elt F .f32 := fun i =>
  scores V c ⟨(i 0).val / 2048, by have := (i 0).isLt; change (i 0).val < 16384 at this; omega⟩
    (Shape.pair (d := ![2048, 1]) ⟨(i 0).val % 2048, Nat.mod_lt _ (by decide)⟩ (0 : Fin 1))

theorem emb_13 (t : Fin cfg1.N) (j : S2048x1.Idx) : ((((cfg1.win 13).blk t).view.emb j : S16384x1.Idx) 0).val = t.val * 2048 + (j 0).val := by
  obtain ⟨e0, e1⟩ := idx_13 t
  show win1_13.index t (0 : Fin 2) * 2048 + 1 * (j 0).val = t.val * 2048 + (j 0).val
  omega

theorem flushed_13 (c : Dev nD) (t : Fin cfg1.N) : (dat V c).flushed 13 t = ((cfg1.win 13).blk t).view.read (Elt F) (all V c) := by
  funext j
  show oblk V c t j = all V c (((cfg1.win 13).blk t).view.emb j)
  rw [oblk_eq]
  have he := emb_13 t j
  have hj : (j 0).val < 2048 := (j 0).isLt
  unfold all
  congr 1
  · congr 1
    refine Fin.ext ?_
    show t.val = _ / 2048
    omega
  · funext a
    refine Fin.ext ?_
    match a with
    | ⟨0, _⟩ => show (j 0).val = _ % 2048; omega
    | ⟨1, _⟩ => have : (j 1).val < 1 := (j 1).isLt; show (j 1).val = 0; omega

theorem cover_13 (i : S16384x1.Idx) : ∃ t : Fin cfg1.N, (cfg1.win 13).flush t = true ∧ i ∈ ((cfg1.win 13).blk t).view.set := by
  have hi : (i 0).val < 16384 := (i 0).isLt
  let t : Fin cfg1.N := (⟨(i 0).val / 2048, by omega⟩ : Fin 8).cast N_1.symm
  let j : S2048x1.Idx := Shape.pair (d := ![2048, 1]) ⟨(i 0).val % 2048, Nat.mod_lt _ (by decide)⟩ (0 : Fin 1)
  refine ⟨t, flush1_13 t, ?_⟩
  have h := ((cfg1.win 13).blk t).view.emb_mem_set j
  have e : (((cfg1.win 13).blk t).view.emb j : S16384x1.Idx) = i := by
    funext a
    refine Fin.ext ?_
    match a with
    | ⟨0, _⟩ =>
      refine (emb_13 t j).trans ?_
      show (i 0).val / 2048 * 2048 + (i 0).val % 2048 = (i 0).val
      omega
    | ⟨1, _⟩ =>
      have h1 : (i 1).val < 1 := (i 1).isLt
      have h2 : ((((cfg1.win 13).blk t).view.emb j : S16384x1.Idx) 1).val < 1 := ((((cfg1.win 13).blk t).view.emb j : S16384x1.Idx) 1).isLt
      show ((((cfg1.win 13).blk t).view.emb j : S16384x1.Idx) 1).val = (i 1).val
      omega
  rwa [e] at h

/-- The scores after the region. -/
theorem final (c : Dev nD) : Pipeline.afterRegion (dat V c) (V c) (dv main_v24) = all V c :=
  (Pipeline.afterRegion_arr (dat V c) (V c) Cert.Proof.Kept.arr_inj 13).trans
    ((dat V c).arrAt_eq_of_cover 13 (all V c) (fun t _ => flushed_13 V c t) cover_13)

variable (m : (ℓ : Loc nD τ sig) → Buf (Elt F) ℓ)

theorem V4_out (d : Dev nD) : V4 m d (dv main_v24) = all (V3 m) d := final (V3 m) d

end Cert.Proof.Blocks

end
-- ==== Proof.HostVal.lean ====
/-
  WHAT THE HOST'S OPERATIONS LEAVE, ELEMENT BY ELEMENT.

  Before the SparseCore call: id array `k` holds column `k` of the ids, 128 to a row; table `k`'s first 64 columns are the
  embedding table's own (its first 1024 rows, of the two larger ones). Between the calls: the three row blocks of the
  first weight, and the biases and the last weight as rows.
-/
module

public import proofs.«01_k».proof.Proof.Kept
public import Idealize.ShloMosaic.Lib.Pointwise

@[expose] public section

noncomputable section

namespace Cert.Proof.HostVal

open Cert.KernelIdeal Cert.KernelIdeal.Gen
open Idealize.ShloMosaic Idealize.ShloMosaic.TcCoe Idealize.ShloMosaic.Tactic
open Cert.Proof.Setup Cert.Proof.Region Cert.Proof.Main Cert.Proof.Host Cert.Proof.Kept

variable {F : FTy → Type} [FloatOps F]

variable (m : (ℓ : Loc nD τ sig) → Buf (Elt F) ℓ)

/-! ## Before the SparseCore call -/

theorem X_i0 (d : Dev nD) (y : S128x128.Idx) :
    (X m d).i0 y = (m (d, dv main_arg0) : S16384x3.Idx → BitVec 32) (ix2 ⟨(y 0).val * 128 + (y 1).val, by have := (y 0).isLt; have := (y 1).isLt; change (y 0).val < 128 at *; change (y 1).val < 128 at *; omega⟩ 0) := by
  have h : (X m d).i0 = (shapeCast S128x128 (shapeCast S16384 (extractStridedSlice S1x16384 ![0, 0]
      (transpose S3x16384 [1, 0] (m (d, dv main_arg0) : S16384x3.Idx → Elt F .i32) transposes_S16384x3_S3x16384_1_0) slices_S3x16384_S1x16384_0_0)
      shapeCasts_S1x16384_S16384) shapeCasts_S16384_S128x128) := by
    show StableHlo.after ops1 (StableHlo.launchContents m d) (dv main_v3) = _
    unfold ops1
    after_results
    rfl
  rw [h]
  pointwise

theorem X_i1 (d : Dev nD) (y : S128x128.Idx) :
    (X m d).i1 y = (m (d, dv main_arg0) : S16384x3.Idx → BitVec 32) (ix2 ⟨(y 0).val * 128 + (y 1).val, by have := (y 0).isLt; have := (y 1).isLt; change (y 0).val < 128 at *; change (y 1).val < 128 at *; omega⟩ 1) := by
  have h : (X m d).i1 = (shapeCast S128x128 (shapeCast S16384 (extractStridedSlice S1x16384 ![1, 0]
      (transpose S3x16384 [1, 0] (m (d, dv main_arg0) : S16384x3.Idx → Elt F .i32) transposes_S16384x3_S3x16384_1_0) slices_S3x16384_S1x16384_1_0)
      shapeCasts_S1x16384_S16384) shapeCasts_S16384_S128x128) := by
    show StableHlo.after ops1 (StableHlo.launchContents m d) (dv main_v6) = _
    unfold ops1
    after_results
    rfl
  rw [h]
  pointwise

theorem X_i2 (d : Dev nD) (y : S128x128.Idx) :
    (X m d).i2 y = (m (d, dv main_arg0) : S16384x3.Idx → BitVec 32) (ix2 ⟨(y 0).val * 128 + (y 1).val, by have := (y 0).isLt; have := (y 1).isLt; change (y 0).val < 128 at *; change (y 1).val < 128 at *; omega⟩ 2) := by
  have h : (X m d).i2 = (shapeCast S128x128 (shapeCast S16384 (extractStridedSlice S1x16384 ![2, 0]
      (transpose S3x16384 [1, 0] (m (d, dv main_arg0) : S16384x3.Idx → Elt F .i32) transposes_S16384x3_S3x16384_1_0) slices_S3x16384_S1x16384_2_0)
      shapeCasts_S1x16384_S16384) shapeCasts_S16384_S128x128) := by
    show StableHlo.after ops1 (StableHlo.launchContents m d) (dv main_v9) = _
    unfold ops1
    after_results
    rfl
  rw [h]
  pointwise

theorem X_t0 (d : Dev nD) (y : S1024x128.Idx) (hy : (y 1).val < 64) :
    (X m d).t0 y = (m (d, dv main_arg1) : S100000x64.Idx → Elt F .f32) (ix2 ⟨(y 0).val, Nat.lt_trans (y 0).isLt (by decide)⟩ ⟨(y 1).val, hy⟩) := by
  have h : (X m d).t0 = pad S1024x128 ![0, 0] ![0, 64] ![0, 0] (extractStridedSlice S1024x64 ![0, 0] (m (d, dv main_arg1) : S100000x64.Idx → Elt F .f32) slices_S100000x64_S1024x64_0_0)
      (sitofp .f32 (constantI S_ 32 0#32)) pads_S1024x64_S1024x128_000_0640 h_S_ := by
    show StableHlo.after ops1 (StableHlo.launchContents m d) (dv main_v11) = _
    unfold ops1
    after_results
    rfl
  rw [h]
  pointwise
  rw [dif_pos hy]

theorem X_t1 (d : Dev nD) (y : S1024x128.Idx) (hy : (y 1).val < 64) :
    (X m d).t1 y = (m (d, dv main_arg2) : S100000x64.Idx → Elt F .f32) (ix2 ⟨(y 0).val, Nat.lt_trans (y 0).isLt (by decide)⟩ ⟨(y 1).val, hy⟩) := by
  have h : (X m d).t1 = pad S1024x128 ![0, 0] ![0, 64] ![0, 0] (extractStridedSlice S1024x64 ![0, 0] (m (d, dv main_arg2) : S100000x64.Idx → Elt F .f32) slices_S100000x64_S1024x64_0_0)
      (sitofp .f32 (constantI S_ 32 0#32)) pads_S1024x64_S1024x128_000_0640 h_S_ := by
    show StableHlo.after ops1 (StableHlo.launchContents m d) (dv main_v13) = _
    unfold ops1
    after_results
    rfl
  rw [h]
  pointwise
  rw [dif_pos hy]

/-- The widened third table at a column below 64. -/
theorem pad_left {α : Type} (E : S1000x64.Idx → α) (v : S_.Idx → α) (y : S1000x128.Idx) (hy : (y 1).val < 64) :
    pad S1000x128 ![0, 0] ![0, 64] ![0, 0] E v pads_S1000x64_S1000x128_000_0640 h_S_ y = E (ix2 ⟨(y 0).val, (y 0).isLt⟩ ⟨(y 1).val, hy⟩) := by
  pointwise
  rw [dif_pos hy]

theorem X_t2 (d : Dev nD) (y : S1000x128.Idx) (hy : (y 1).val < 64) :
    (X m d).t2 y = (m (d, dv main_arg3) : S1000x64.Idx → Elt F .f32) (ix2 ⟨(y 0).val, (y 0).isLt⟩ ⟨(y 1).val, hy⟩) := by
  have h : (X m d).t2 = pad S1000x128 ![0, 0] ![0, 64] ![0, 0] (m (d, dv main_arg3) : S1000x64.Idx → Elt F .f32)
      (sitofp .f32 (constantI S_ 32 0#32)) pads_S1000x64_S1000x128_000_0640 h_S_ := by
    show StableHlo.after ops1 (StableHlo.launchContents m d) (dv main_v14) = _
    unfold ops1
    after_results
    rfl
  rw [h]
  exact pad_left _ _ y hy

/-- Ids below 1000 put every id array in range. -/
theorem inRange (d : Dev nD) (h : ∀ i, ((m (d, dv main_arg0) : S16384x3.Idx → BitVec 32) i).toNat < 1000) : (X m d).InRange := fun y => by
  rw [X_i0, X_i1, X_i2]
  exact ⟨h _, h _, h _⟩

/-! ## Between the calls -/

/-- The SparseCore call's and the second line's writes leave the arguments. -/
theorem V2_arg4 (d : Dev nD) : V2 m d (dv main_arg4) = m (d, dv main_arg4) :=
  (V2_of m d _ (by decide) (by decide) (by decide)).trans (V1_arg4 m d)
theorem V2_arg5 (d : Dev nD) : V2 m d (dv main_arg5) = m (d, dv main_arg5) :=
  (V2_of m d _ (by decide) (by decide) (by decide)).trans (V1_arg5 m d)
theorem V2_arg7 (d : Dev nD) : V2 m d (dv main_arg7) = m (d, dv main_arg7) :=
  (V2_of m d _ (by decide) (by decide) (by decide)).trans (V1_arg7 m d)
theorem V2_arg9 (d : Dev nD) : V2 m d (dv main_arg9) = m (d, dv main_arg9) :=
  (V2_of m d _ (by decide) (by decide) (by decide)).trans (V1_arg9 m d)
theorem V2_arg10 (d : Dev nD) : V2 m d (dv main_arg10) = m (d, dv main_arg10) :=
  (V2_of m d _ (by decide) (by decide) (by decide)).trans (V1_arg10 m d)
theorem V2_arg11 (d : Dev nD) : V2 m d (dv main_arg11) = m (d, dv main_arg11) :=
  (V2_of m d _ (by decide) (by decide) (by decide)).trans (V1_arg11 m d)

theorem V3_r0 (d : Dev nD) : V3 m d (dv main_v15_0) = (X m d).r0 := by
  have h : V3 m d (dv main_v15_0) = V2 m d (dv main_v15_0) := by
    unfold V3 ops2
    after_results
  rw [h, V2_0]

theorem V3_r1 (d : Dev nD) : V3 m d (dv main_v15_1) = (X m d).r1 := by
  have h : V3 m d (dv main_v15_1) = V2 m d (dv main_v15_1) := by
    unfold V3 ops2
    after_results
  rw [h, V2_1]

theorem V3_r2 (d : Dev nD) : V3 m d (dv main_v15_2) = (X m d).r2 := by
  have h : V3 m d (dv main_v15_2) = V2 m d (dv main_v15_2) := by
    unfold V3 ops2
    after_results
  rw [h, V2_2]

theorem V3_w0 (d : Dev nD) (y : S64x512.Idx) :
    (V3 m d (dv main_v16) : S64x512.Idx → Elt F .f32) y = (m (d, dv main_arg4) : S192x512.Idx → Elt F .f32) (ix2 ⟨0 + (y 0).val, by have := (y 0).isLt; change (y 0).val < 64 at this; omega⟩ (y 1)) := by
  have h : (V3 m d (dv main_v16) : S64x512.Idx → Elt F .f32) = extractStridedSlice S64x512 ![0, 0] (V2 m d (dv main_arg4) : S192x512.Idx → Elt F .f32) slices_S192x512_S64x512_0_0 := by
    unfold V3 ops2
    after_results
  rw [h, V2_arg4]
  pointwise

theorem V3_w1 (d : Dev nD) (y : S64x512.Idx) :
    (V3 m d (dv main_v17) : S64x512.Idx → Elt F .f32) y = (m (d, dv main_arg4) : S192x512.Idx → Elt F .f32) (ix2 ⟨64 + (y 0).val, by have := (y 0).isLt; change (y 0).val < 64 at this; omega⟩ (y 1)) := by
  have h : (V3 m d (dv main_v17) : S64x512.Idx → Elt F .f32) = extractStridedSlice S64x512 ![64, 0] (V2 m d (dv main_arg4) : S192x512.Idx → Elt F .f32) slices_S192x512_S64x512_64_0 := by
    unfold V3 ops2
    after_results
  rw [h, V2_arg4]
  pointwise

theorem V3_w2 (d : Dev nD) (y : S64x512.Idx) :
    (V3 m d (dv main_v18) : S64x512.Idx → Elt F .f32) y = (m (d, dv main_arg4) : S192x512.Idx → Elt F .f32) (ix2 ⟨128 + (y 0).val, by have := (y 0).isLt; change (y 0).val < 64 at this; omega⟩ (y 1)) := by
  have h : (V3 m d (dv main_v18) : S64x512.Idx → Elt F .f32) = extractStridedSlice S64x512 ![128, 0] (V2 m d (dv main_arg4) : S192x512.Idx → Elt F .f32) slices_S192x512_S64x512_128_0 := by
    unfold V3 ops2
    after_results
  rw [h, V2_arg4]
  pointwise

theorem V3_b1 (d : Dev nD) (y : S1x512.Idx) :
    (V3 m d (dv main_v19) : S1x512.Idx → Elt F .f32) y = (m (d, dv main_arg5) : S512.Idx → Elt F .f32) (ix1 (y 1)) := by
  have h : (V3 m d (dv main_v19) : S1x512.Idx → Elt F .f32) = shapeCast S1x512 (V2 m d (dv main_arg5) : S512.Idx → Elt F .f32) shapeCasts_S512_S1x512 := by
    unfold V3 ops2
    after_results
    rfl
  rw [h, V2_arg5]
  pointwise

theorem V3_b2 (d : Dev nD) (y : S1x256.Idx) :
    (V3 m d (dv main_v20) : S1x256.Idx → Elt F .f32) y = (m (d, dv main_arg7) : S256.Idx → Elt F .f32) (ix1 (y 1)) := by
  have h : (V3 m d (dv main_v20) : S1x256.Idx → Elt F .f32) = shapeCast S1x256 (V2 m d (dv main_arg7) : S256.Idx → Elt F .f32) shapeCasts_S256_S1x256 := by
    unfold V3 ops2
    after_results
    rfl
  rw [h, V2_arg7]
  pointwise

theorem V3_b3 (d : Dev nD) (y : S1x128.Idx) :
    (V3 m d (dv main_v21) : S1x128.Idx → Elt F .f32) y = (m (d, dv main_arg9) : S128.Idx → Elt F .f32) (ix1 (y 1)) := by
  have h : (V3 m d (dv main_v21) : S1x128.Idx → Elt F .f32) = shapeCast S1x128 (V2 m d (dv main_arg9) : S128.Idx → Elt F .f32) shapeCasts_S128_S1x128 := by
    unfold V3 ops2
    after_results
    rfl
  rw [h, V2_arg9]
  pointwise

theorem V3_wl (d : Dev nD) (y : S1x128.Idx) :
    (V3 m d (dv main_v22) : S1x128.Idx → Elt F .f32) y = (m (d, dv main_arg10) : S128x1.Idx → Elt F .f32) (ix2 (y 1) 0) := by
  have h : (V3 m d (dv main_v22) : S1x128.Idx → Elt F .f32) = shapeCast S1x128 (V2 m d (dv main_arg10) : S128x1.Idx → Elt F .f32) shapeCasts_S128x1_S1x128 := by
    unfold V3 ops2
    after_results
    rfl
  rw [h, V2_arg10]
  pointwise

theorem V3_bl (d : Dev nD) (y : S1x1.Idx) :
    (V3 m d (dv main_v23) : S1x1.Idx → Elt F .f32) y = (m (d, dv main_arg11) : S1.Idx → Elt F .f32) (ix1 0) := by
  have h : (V3 m d (dv main_v23) : S1x1.Idx → Elt F .f32) = shapeCast S1x1 (V2 m d (dv main_arg11) : S1.Idx → Elt F .f32) shapeCasts_S1_S1x1 := by
    unfold V3 ops2
    after_results
    rfl
  rw [h, V2_arg11]
  pointwise

end Cert.Proof.HostVal

end
-- ==== Proof.KernelVal.lean ====
/-
  THE KERNEL'S VALUE.

  The perceptron's body at an element of a block, over the extended reals (`block_at`); its operands at the launch's
  contents; and so the scores: `value`, the kernel's result is `Net.net` of its arguments.
-/
module

public import proofs.«01_k».proof.Proof.Net
public import proofs.«01_k».proof.Proof.Blocks
public import proofs.«01_k».proof.Proof.HostVal

@[expose] public section

noncomputable section

namespace Cert.Proof.KernelVal

open Cert.KernelIdeal Cert.KernelIdeal.Gen
open Idealize.ShloMosaic Idealize.ShloMosaic.TcCoe Idealize.ShloMosaic.Tactic
open Cert.Proof.Setup Cert.Proof.Body Cert.Proof.Region Cert.Proof.Main Cert.Proof.Host Cert.Proof.Kept Cert.Proof.HostVal Cert.Proof.Blocks Cert.Proof.Net Cert.Proof.Looked

/-- The first 64 columns of a row of 128. -/
def left (q : Fin 64) : Fin 128 := ⟨q.val, Nat.lt_trans q.isLt (by decide)⟩

set_option maxRecDepth 16384 in
/-- The perceptron's body at an element of a block. -/
theorem block_at (x0 x1 x2 : FVec Ideal S2048x128 .f32) (x3 x4 x5 : FVec Ideal S64x512 .f32) (x6 : FVec Ideal S1x512 .f32) (x7 : FVec Ideal S512x256 .f32)
    (x8 : FVec Ideal S1x256 .f32) (x9 : FVec Ideal S256x128 .f32) (x10 x11 : FVec Ideal S1x128 .f32) (x12 : FVec Ideal S1x1 .f32) (j : S2048x1.Idx) :
    (blockOut (F := Ideal) x0 x1 x2 x3 x4 x5 x6 x7 x8 x9 x10 x11 x12 : FVec Ideal S2048x1 .f32) j
      = ∑ e : Fin 128, Ideal.tanh (∑ c : Fin 256, Ideal.tanh (∑ a : Fin 512,
          Ideal.tanh ((∑ q : Fin 64, x0 (ix2 (j 0) (left q)) * x3 (ix2 q a)) + (∑ q : Fin 64, x1 (ix2 (j 0) (left q)) * x4 (ix2 q a))
            + (∑ q : Fin 64, x2 (ix2 (j 0) (left q)) * x5 (ix2 q a)) + x6 (ix2 0 a))
          * x7 (ix2 a c) + x8 (ix2 0 c)) * x9 (ix2 c e) + x10 (ix2 0 e)) * x11 (ix2 0 e) + x12 (ix2 0 0) := by
  unfold blockOut cols
  pointwise [k1_pay1, k1_pay2]
  rfl

variable (m : (ℓ : Loc nD τ sig) → Buf (Elt Ideal) ℓ)

/-- Sample `r`'s entry of an id array is the sample's own. -/
theorem entry_pos (r : Fin 16384) : (⟨((entry r) 0).val * 128 + ((entry r) 1).val, by have := ((entry r) 0).isLt; have := ((entry r) 1).isLt; change ((entry r) 0).val < 128 at *; change ((entry r) 1).val < 128 at *; omega⟩ : Fin 16384) = r :=
  Fin.ext (by show r.val / 128 * 128 + r.val % 128 = r.val; omega)

/-- Looked-up array 0 at a sample and one of the first 64 columns. -/
theorem r0_at (d : Dev nD) (h : ∀ i, ((m (d, dv main_arg0) : S16384x3.Idx → BitVec 32) i).toNat < 1000) (r : Fin 16384) (q : Fin 64) :
    (X m d).r0 (ix2 r (left q)) = emb (n := 100000) (by decide) (m (d, dv main_arg1)) (m (d, dv main_arg0)) 0 r q := by
  have hi : (X m d).i0 (entry r) = (m (d, dv main_arg0) : S16384x3.Idx → BitVec 32) (ix2 r 0) :=
    (X_i0 m d (entry r)).trans (congrArg (fun p : Fin 16384 => (m (d, dv main_arg0) : S16384x3.Idx → BitVec 32) (ix2 p 0)) (entry_pos r))
  have hx : ((m (d, dv main_arg0) : S16384x3.Idx → BitVec 32) (ix2 r 0)).toNat < 1000 := h _
  refine (X_t0 m d _ q.isLt).trans (congrArg (fun p : Fin 100000 => (m (d, dv main_arg1) : S100000x64.Idx → Ideal .f32) (ix2 p q)) (Fin.ext ?_))
  show ((X m d).i0 (entry r)).toNat % 1024 = ((m (d, dv main_arg0) : S16384x3.Idx → BitVec 32) (ix2 r 0)).toNat % 100000
  rw [hi]
  omega

/-- Looked-up array 1 at a sample and one of the first 64 columns. -/
theorem r1_at (d : Dev nD) (h : ∀ i, ((m (d, dv main_arg0) : S16384x3.Idx → BitVec 32) i).toNat < 1000) (r : Fin 16384) (q : Fin 64) :
    (X m d).r1 (ix2 r (left q)) = emb (n := 100000) (by decide) (m (d, dv main_arg2)) (m (d, dv main_arg0)) 1 r q := by
  have hi : (X m d).i1 (entry r) = (m (d, dv main_arg0) : S16384x3.Idx → BitVec 32) (ix2 r 1) :=
    (X_i1 m d (entry r)).trans (congrArg (fun p : Fin 16384 => (m (d, dv main_arg0) : S16384x3.Idx → BitVec 32) (ix2 p 1)) (entry_pos r))
  have hx : ((m (d, dv main_arg0) : S16384x3.Idx → BitVec 32) (ix2 r 1)).toNat < 1000 := h _
  refine (X_t1 m d _ q.isLt).trans (congrArg (fun p : Fin 100000 => (m (d, dv main_arg2) : S100000x64.Idx → Ideal .f32) (ix2 p q)) (Fin.ext ?_))
  show ((X m d).i1 (entry r)).toNat % 1024 = ((m (d, dv main_arg0) : S16384x3.Idx → BitVec 32) (ix2 r 1)).toNat % 100000
  rw [hi]
  omega

/-- Looked-up array 2 at a sample and one of the first 64 columns. -/
theorem r2_at (d : Dev nD) (h : ∀ i, ((m (d, dv main_arg0) : S16384x3.Idx → BitVec 32) i).toNat < 1000) (r : Fin 16384) (q : Fin 64) :
    (X m d).r2 (ix2 r (left q)) = emb (n := 1000) (by decide) (m (d, dv main_arg3)) (m (d, dv main_arg0)) 2 r q := by
  have hi : (X m d).i2 (entry r) = (m (d, dv main_arg0) : S16384x3.Idx → BitVec 32) (ix2 r 2) :=
    (X_i2 m d (entry r)).trans (congrArg (fun p : Fin 16384 => (m (d, dv main_arg0) : S16384x3.Idx → BitVec 32) (ix2 p 2)) (entry_pos r))
  have hx : ((m (d, dv main_arg0) : S16384x3.Idx → BitVec 32) (ix2 r 2)).toNat < 1000 := h _
  refine (X_t2 m d _ q.isLt).trans (congrArg (fun p : Fin 1000 => (m (d, dv main_arg3) : S1000x64.Idx → Ideal .f32) (ix2 p q)) (Fin.ext ?_))
  show ((X m d).i2 (entry r)).toNat % 1000 = ((m (d, dv main_arg0) : S16384x3.Idx → BitVec 32) (ix2 r 2)).toNat % 1000
  rw [hi]

/-- Row `r % 2048` of point `r / 2048`'s block is row `r`. -/
theorem rows_at {α : Type} (A : S16384x128.Idx → α) (r : Fin 16384) (q : Fin 128) (ht : r.val / 2048 < 8) (p : Fin 2048) (hp : p.val = r.val % 2048) :
    rows ⟨r.val / 2048, ht⟩ A (ix2 p q) = A (ix2 r q) := by
  refine congrArg A (funext fun a => Fin.ext ?_)
  match a with
  | 0 => show r.val / 2048 * 2048 + p.val = r.val; omega
  | 1 => rfl

/-- The first layer's contraction of one looked-up array with its block of the weight. -/
theorem first_at {n : Nat} (hn : 0 < n) (E : (⟨2, ![n, 64]⟩ : Shape).Idx → Ideal .f32) (x : S16384x3.Idx → BitVec 32) (W : S192x512.Idx → Ideal .f32)
    (k : Fin 3) (A : S16384x128.Idx → Ideal .f32) (B : S64x512.Idx → Ideal .f32) (r : Fin 16384) (ht : r.val / 2048 < 8) (p : Fin 2048) (hp : p.val = r.val % 2048)
    (hA : ∀ q, A (ix2 r (left q)) = emb hn E x k r q) (hB : ∀ q a, B (ix2 q a) = W (ix2 (row k q) a)) (a : Fin 512) :
    (∑ q : Fin 64, rows ⟨r.val / 2048, ht⟩ A (ix2 p (left q)) * B (ix2 q a)) = first hn E x W k r a :=
  Finset.sum_congr rfl fun q _ => by rw [rows_at A r _ ht p hp, hA, hB]

/-- The body at row `r % 2048` of point `r / 2048`'s blocks is sample `r`'s score, where the looked-up arrays hold the
    embeddings and the weights' blocks and rows hold the weights. -/
theorem block_net (x : S16384x3.Idx → BitVec 32) (E0 E1 : S100000x64.Idx → Ideal .f32) (E2 : S1000x64.Idx → Ideal .f32)
    (W1 : S192x512.Idx → Ideal .f32) (b1 : S512.Idx → Ideal .f32) (W2 : S512x256.Idx → Ideal .f32) (b2 : S256.Idx → Ideal .f32)
    (W3 : S256x128.Idx → Ideal .f32) (b3 : S128.Idx → Ideal .f32) (Wl : S128x1.Idx → Ideal .f32) (bl : S1.Idx → Ideal .f32)
    (A0 A1 A2 : FVec Ideal S16384x128 .f32) (B0 B1 B2 : FVec Ideal S64x512 .f32) (c1 : FVec Ideal S1x512 .f32) (c2 : FVec Ideal S1x256 .f32)
    (c3 cl : FVec Ideal S1x128 .f32) (c : FVec Ideal S1x1 .f32) (r : Fin 16384)
    (hA0 : ∀ q, A0 (ix2 r (left q)) = emb (by decide) E0 x 0 r q) (hA1 : ∀ q, A1 (ix2 r (left q)) = emb (by decide) E1 x 1 r q)
    (hA2 : ∀ q, A2 (ix2 r (left q)) = emb (by decide) E2 x 2 r q)
    (hB0 : ∀ q a, B0 (ix2 q a) = W1 (ix2 (row 0 q) a)) (hB1 : ∀ q a, B1 (ix2 q a) = W1 (ix2 (row 1 q) a)) (hB2 : ∀ q a, B2 (ix2 q a) = W1 (ix2 (row 2 q) a))
    (h1 : ∀ a, c1 (ix2 0 a) = b1 (ix1 a)) (h2 : ∀ a, c2 (ix2 0 a) = b2 (ix1 a)) (h3 : ∀ a, c3 (ix2 0 a) = b3 (ix1 a))
    (hl : ∀ a, cl (ix2 0 a) = Wl (ix2 a 0)) (hc : c (ix2 0 0) = bl (ix1 0)) (ht : r.val / 2048 < 8) (p : Fin 2048) (hp : p.val = r.val % 2048) :
    (blockOut (F := Ideal) (rows ⟨r.val / 2048, ht⟩ A0) (rows ⟨r.val / 2048, ht⟩ A1) (rows ⟨r.val / 2048, ht⟩ A2) B0 B1 B2 c1 W2 c2 W3 c3 cl c : FVec Ideal S2048x1 .f32) (ix2 p 0)
      = net x E0 E1 E2 W1 b1 W2 b2 W3 b3 Wl bl r := by
  rw [block_at]
  unfold net
  simp only [h1, h2, h3, hl, hc]
  have f0 := first_at (by decide) E0 x W1 0 A0 B0 r ht p hp hA0 hB0
  have f1 := first_at (by decide) E1 x W1 1 A1 B1 r ht p hp hA1 hB1
  have f2 := first_at (by decide) E2 x W1 2 A2 B2 r ht p hp hA2 hB2
  simp only [← f0, ← f1, ← f2]
  rfl

/-- The kernel's result is the formula of its arguments, where its ids are below 1000. -/
theorem value (d : Dev nD) (h : ∀ i, ((m (d, dv main_arg0) : S16384x3.Idx → BitVec 32) i).toNat < 1000) :
    V4 m d (dv main_v24) = fun y : S16384x1.Idx => net (m (d, dv main_arg0)) (m (d, dv main_arg1)) (m (d, dv main_arg2)) (m (d, dv main_arg3)) (m (d, dv main_arg4))
      (m (d, dv main_arg5)) (m (d, dv main_arg6)) (m (d, dv main_arg7)) (m (d, dv main_arg8)) (m (d, dv main_arg9)) (m (d, dv main_arg10)) (m (d, dv main_arg11)) (y 0) := by
  rw [V4_out]
  funext y
  have hq : Shape.pair (d := ![2048, 1]) ⟨(y 0).val % 2048, Nat.mod_lt _ (by decide)⟩ (0 : Fin 1) = ix2 (n0 := 2048) (n1 := 1) ⟨(y 0).val % 2048, Nat.mod_lt _ (by decide)⟩ 0 := by
    funext a
    match a with
    | 0 => rfl
    | 1 => rfl
  unfold all scores
  rw [hq, V3_arg6, V3_arg8]
  exact block_net _ _ _ _ _ _ _ _ _ _ _ _ _ _ _ _ _ _ _ _ _ _ _ (y 0)
    (fun q => (congrFun (V3_r0 m d) _).trans (r0_at m d h _ q)) (fun q => (congrFun (V3_r1 m d) _).trans (r1_at m d h _ q))
    (fun q => (congrFun (V3_r2 m d) _).trans (r2_at m d h _ q))
    (fun q a => (V3_w0 m d _).trans rfl) (fun q a => (V3_w1 m d _).trans rfl) (fun q a => (V3_w2 m d _).trans rfl)
    (fun a => V3_b1 m d _) (fun a => V3_b2 m d _) (fun a => V3_b3 m d _) (fun a => V3_wl m d _) (V3_bl m d _)
    (by have := (y 0).isLt; change (y 0).val < 16384 at this; omega) _ rfl

end Cert.Proof.KernelVal

end
-- ==== Proof.RefVal.lean ====
/-
  THE REFERENCE'S VALUE.

  Each of the reference's lookups, at ids in range, is the table's row: the wrap of a negative id is not taken, the
  out-of-range mask is all ones and the gather's clamp does nothing (`take_big`, `take_small`). With the 192-column
  contraction cut in three, the reference's result is `Net.net` of its arguments (`value`).
-/
module

public import proofs.«01_k».proof.Proof.Net
public import proofs.«01_k».proof.Proof.Gen.ReferenceIdeal.Run
public import Idealize.ShloMosaic.Lib.Routing.Ops
public import Idealize.ShloMosaic.Lib.ReduceAll

@[expose] public section

noncomputable section

namespace Cert.Proof.RefVal

open Cert.ReferenceIdeal Cert.ReferenceIdeal.Gen Cert.ReferenceIdeal.Value
open Idealize.ShloMosaic Idealize.ShloMosaic.TcCoe Idealize.ShloMosaic.Tactic
open Cert.Proof.Net

/-! ## One lookup -/

/-- Column `k` of the ids, as a list. -/
abbrev col (k : Nat) (hk : S16384x3.Slices ![0, k] S16384x1) (x : IVec S16384x3 32) : IVec S16384 32 :=
  shapeCast S16384 (extractStridedSlice S16384x1 ![0, k] x hk) shapeCasts_S16384x1_S16384

/-- The list with `n` added to each negative id, as a column. -/
abbrev wrapped (n : BitVec 32) (w : IVec S16384 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 n))) w)

/-- Where those lie in `[0, last]`. -/
abbrev valid (n last : BitVec 32) (w : IVec S16384 32) : IVec S16384 1 :=
  Host.reduce IntOp.andi
    (andi (cmpi .sge (wrapped n w) (broadcastInDim S16384x1 ![] bcast_S_S16384x1 (constantI S_ 32 0#32)))
      (cmpi .sle (wrapped n w) (broadcastInDim S16384x1 ![0, 1] bcast_S1x1_S16384x1_0_1 (broadcastInDim S1x1 ![1] bcast_S1_S1x1_1 (constantI S1 32 last)))))
    (constantI S_ 1 1#1) reducesTo_S16384x1_S16384_d1 h_S_

/-- The rows where valid, the fill value elsewhere. -/
abbrev filled {F : FTy → Type} [FloatOps F] (n last : BitVec 32) (w : IVec S16384 32) (g : FVec F S16384x64 .f32) : FVec F S16384x64 .f32 :=
  select (broadcastInDim S16384x64 ![0] bcast_S16384_S16384x64_0 (valid n last w)) g
    (broadcastInDim S16384x64 ![] bcast_S_S16384x64 (constant S_ .f32 0x7FC00000#32))

/-- A word below 1000 is not negative. -/
theorem not_neg {w : BitVec 32} (h : w.toNat < 1000) : IntOp.cmpi .slt w 0#32 = 0#1 := by
  rcases BitVec.eq_zero_or_eq_one (IntOp.cmpi .slt w 0#32) with e | e
  · exact e
  · rw [IntOp.cmpi_slt, show (0#32 : BitVec 32).toInt = 0 from rfl, BitVec.toInt_eq_toNat_cond] at e
    split at e <;> omega

theorem wrapped_at (n : BitVec 32) (w : IVec S16384 32) (y : S16384x1.Idx) (h : (w (ix1 (y 0))).toNat < 1000) : wrapped n w y = w (ix1 (y 0)) := by
  pointwise
  rw [not_neg h]
  rfl

theorem valid_at (n last : BitVec 32) (hl : 1000 ≤ last.toNat + 1) (hl' : last.toNat < 2 ^ 31) (w : IVec S16384 32) (h : ∀ i, (w i).toNat < 1000) (y : S16384.Idx) :
    valid n last w y = 1#1 := by
  refine Host.reduce_andi_one _ _ _ _ _ rfl fun i => ?_
  show IntOp.andi (IntOp.cmpi .sge (wrapped n w i) 0#32) (IntOp.cmpi .sle (wrapped n w i) last) = 1#1
  rw [wrapped_at n w i (h _)]
  have hw := h (ix1 (i 0))
  refine IntOp.andi_eq_one.2 ⟨IntOp.cmpi_sge.2 ?_, IntOp.cmpi_sle.2 ?_⟩
  · rw [show (0#32 : BitVec 32).toInt = 0 from rfl, BitVec.toInt_eq_toNat_cond]; split <;> omega
  · rw [BitVec.toInt_eq_toNat_cond, BitVec.toInt_eq_toNat_cond]; split <;> split <;> omega

/-- A choice by a list spread over the columns, at an element. -/
theorem choice_at {α : Type} (u : IVec S16384 1) (g f : S16384x64.Idx → α) (y : S16384x64.Idx) :
    select (broadcastInDim S16384x64 ![0] bcast_S16384_S16384x64_0 u) g f y = Scalar.select (u (ix1 (y 0))) (g y) (f y) := by
  pointwise

theorem filled_at {F : FTy → Type} [FloatOps F] (n last : BitVec 32) (hl : 1000 ≤ last.toNat + 1) (hl' : last.toNat < 2 ^ 31) (w : IVec S16384 32) (h : ∀ i, (w i).toNat < 1000)
    (g : FVec F S16384x64 .f32) (y : S16384x64.Idx) : filled n last w g y = g y := by
  unfold filled
  rw [choice_at, valid_at n last hl hl' w h]
  rfl

theorem col_at (k : Fin 3) (hk : S16384x3.Slices ![0, k.val] S16384x1) (x : IVec S16384x3 32) (y : S16384.Idx) : col k.val hk x y = x (ix2 (y 0) k) := by
  pointwise

variable {F : FTy → Type} [FloatOps F]

/-- The reference's lookup in a table of 100000 rows. -/
abbrev big (k : Fin 3) (hk : S16384x3.Slices ![0, k.val] S16384x1) (x : IVec S16384x3 32) (E : FVec F S100000x64 .f32) : FVec F S16384x64 .f32 :=
  filled 100000#32 99999#32 (col k.val hk x) (Host.gather gather_S100000x64_S16384x1_S16384x64_1_0_n_n_0_1_164 E (wrapped 100000#32 (col k.val hk x)))

/-- It is the table's row that the id names. -/
theorem take_big (k : Fin 3) (hk : S16384x3.Slices ![0, k.val] S16384x1) (x : IVec S16384x3 32) (h : ∀ i, (x i).toNat < 1000) (E : FVec F S100000x64 .f32) :
    big k hk x E = fun y => emb (by decide) E x k (y 0) (y 1) := by
  have hc : ∀ i, (col k.val hk x i).toNat < 1000 := fun i => by rw [col_at]; exact h _
  funext y
  refine (filled_at _ _ (by decide) (by decide) _ hc _ y).trans ?_
  have hy : y = ix2 (y 0) (y 1) := by funext a; match a with | 0 => rfl | 1 => rfl
  have hx : (x (ix2 (y 0) k)).toNat < 1000 := h _
  refine (congrArg _ hy).trans ?_
  refine Routing.gather_row _ rfl rfl rfl rfl rfl E _ (y 0) (y 1) ⟨(x (ix2 (y 0) k)).toNat % 100000, Nat.mod_lt _ (by decide)⟩ ?_ (by decide)
  refine (wrapped_at _ _ _ (hc _)).trans ((col_at k hk x _).trans (BitVec.eq_of_toNat_eq ?_))
  show (x (ix2 (y 0) k)).toNat = ((x (ix2 (y 0) k)).toNat % 100000) % 2 ^ 32
  omega

/-- The reference's lookup in the table of 1000 rows. -/
abbrev small (k : Fin 3) (hk : S16384x3.Slices ![0, k.val] S16384x1) (x : IVec S16384x3 32) (E : FVec F S1000x64 .f32) : FVec F S16384x64 .f32 :=
  filled 1000#32 999#32 (col k.val hk x) (Host.gather gather_S1000x64_S16384x1_S16384x64_1_0_n_n_0_1_164 E (wrapped 1000#32 (col k.val hk x)))

/-- It is the table's row that the id names. -/
theorem take_small (k : Fin 3) (hk : S16384x3.Slices ![0, k.val] S16384x1) (x : IVec S16384x3 32) (h : ∀ i, (x i).toNat < 1000) (E : FVec F S1000x64 .f32) :
    small k hk x E = fun y => emb (by decide) E x k (y 0) (y 1) := by
  have hc : ∀ i, (col k.val hk x i).toNat < 1000 := fun i => by rw [col_at]; exact h _
  funext y
  refine (filled_at _ _ (by decide) (by decide) _ hc _ y).trans ?_
  have hy : y = ix2 (y 0) (y 1) := by funext a; match a with | 0 => rfl | 1 => rfl
  have hx : (x (ix2 (y 0) k)).toNat < 1000 := h _
  refine (congrArg _ hy).trans ?_
  refine Routing.gather_row _ rfl rfl rfl rfl rfl E _ (y 0) (y 1) ⟨(x (ix2 (y 0) k)).toNat % 1000, Nat.mod_lt _ (by decide)⟩ ?_ (by decide)
  refine (wrapped_at _ _ _ (hc _)).trans ((col_at k hk x _).trans (BitVec.eq_of_toNat_eq ?_))
  show (x (ix2 (y 0) k)).toNat = ((x (ix2 (y 0) k)).toNat % 1000) % 2 ^ 32
  omega

/-! ## The whole -/

/-- The perceptron over three embeddings. -/
abbrev mlp (e0 e1 e2 : FVec F S16384x64 .f32) (W1 : FVec F S192x512 .f32) (b1 : FVec F S512 .f32) (W2 : FVec F S512x256 .f32) (b2 : FVec F S256 .f32)
    (W3 : FVec F S256x128 .f32) (b3 : FVec F S128 .f32) (Wl : FVec F S128x1 .f32) (bl : FVec F S1 .f32) : FVec F S16384x1 .f32 :=
  addf (Host.dotGeneral dot_S16384x128_S128x1_S16384x1_1_0_0_1_n_n none
    (Host.tanh (addf (Host.dotGeneral dot_S16384x256_S256x128_S16384x128_1_0_0_1_n_n none
      (Host.tanh (addf (Host.dotGeneral dot_S16384x512_S512x256_S16384x256_1_0_0_1_n_n none
        (Host.tanh (addf (Host.dotGeneral dot_S16384x192_S192x512_S16384x512_1_0_0_1_n_n none
          (concatenate S16384x192 1 [⟨S16384x64, e0⟩, ⟨S16384x64, e1⟩, ⟨S16384x64, e2⟩] concatenates_S16384x64_S16384x64_S16384x64_S16384x192_d1) W1)
          (broadcastInDim S16384x512 ![0, 1] bcast_S1x512_S16384x512_0_1 (broadcastInDim S1x512 ![1] bcast_S512_S1x512_1 b1)))) W2)
        (broadcastInDim S16384x256 ![0, 1] bcast_S1x256_S16384x256_0_1 (broadcastInDim S1x256 ![1] bcast_S256_S1x256_1 b2)))) W3)
      (broadcastInDim S16384x128 ![0, 1] bcast_S1x128_S16384x128_0_1 (broadcastInDim S1x128 ![1] bcast_S128_S1x128_1 b3)))) Wl)
    (broadcastInDim S16384x1 ![0, 1] bcast_S1x1_S16384x1_0_1 (broadcastInDim S1x1 ![1] bcast_S1_S1x1_1 bl))

theorem row_0 (q : Fin 64) : row 0 q = ⟨q.val, by have := q.isLt; omega⟩ := Fin.ext (by show 64 * 0 + q.val = q.val; omega)
theorem row_1 (q : Fin 64) : row 1 q = ⟨64 + q.val, by have := q.isLt; omega⟩ := rfl
theorem row_2 (q : Fin 64) : row 2 q = ⟨64 + (64 + q.val), by have := q.isLt; omega⟩ := Fin.ext (by show 64 * 2 + q.val = 64 + (64 + q.val); omega)

set_option maxRecDepth 16384 in
/-- The perceptron over the three embeddings is the formula, at every sample. -/
theorem mlp_at (x : IVec S16384x3 32) (E0 E1 : FVec Ideal S100000x64 .f32) (E2 : FVec Ideal S1000x64 .f32) (W1 : FVec Ideal S192x512 .f32) (b1 : FVec Ideal S512 .f32)
    (W2 : FVec Ideal S512x256 .f32) (b2 : FVec Ideal S256 .f32) (W3 : FVec Ideal S256x128 .f32) (b3 : FVec Ideal S128 .f32) (Wl : FVec Ideal S128x1 .f32) (bl : FVec Ideal S1 .f32) (r : Fin 16384) :
    mlp (fun y => emb (by decide) E0 x 0 (y 0) (y 1)) (fun y => emb (by decide) E1 x 1 (y 0) (y 1)) (fun y => emb (by decide) E2 x 2 (y 0) (y 1)) W1 b1 W2 b2 W3 b3 Wl bl (ix2 r 0)
      = net x E0 E1 E2 W1 b1 W2 b2 W3 b3 Wl bl r := by
  pointwise [sumSplitAll]
  unfold net first
  simp only [row_0, row_1, row_2, ← add_assoc]

/-- The reference's result is the formula of its arguments, where its ids are below 1000. -/
theorem value (m : (ℓ : Loc nD τ sig) → Buf (Elt Ideal) ℓ) (c : Dev nD)
    (h : ∀ i, ((m ((c.tc : Thread nD τ).loc main_arg0) : IVec S16384x3 32) i).toNat < 1000) :
    res_main_v28 m c = fun y => net (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (y 0) := by
  have e : (res_main_v28 m c : FVec Ideal S16384x1 .f32) = mlp (F := Ideal) (big 0 slices_S16384x3_S16384x1_0_0 (m ((c.tc : Thread nD τ).loc main_arg0)) (m ((c.tc : Thread nD τ).loc main_arg1)))
      (big 1 slices_S16384x3_S16384x1_0_1 (m ((c.tc : Thread nD τ).loc main_arg0)) (m ((c.tc : Thread nD τ).loc main_arg2)))
      (small 2 slices_S16384x3_S16384x1_0_2 (m ((c.tc : Thread nD τ).loc main_arg0)) (m ((c.tc : Thread nD τ).loc main_arg3)))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) := rfl
  rw [e, take_big _ _ _ h, take_big _ _ _ h, take_small _ _ _ h]
  funext y
  have hy : y = ix2 (n0 := 16384) (n1 := 1) (y 0) 0 := by
    funext a
    match a with
    | 0 => rfl
    | 1 => exact Subsingleton.elim (α := Fin 1) _ _
  exact (congrArg _ hy).trans (mlp_at ..)

end Cert.Proof.RefVal

end
-- ==== Proof.lean ====
/-
  THE CLAIMS.

  `Cert.Claim`: the kernel and its ideal form run, over every input whose ids lie in [0, 1000), and leave their arguments
  and every semaphore as they found them; so does the reference; the ideal form is the kernel's own program; and over the
  extended reals the kernel and the reference return the same array.

  The kernel's run is proved once, over any float values (Proof/Run.lean `run_main`), and read here at each. What it leaves
  in the result is Proof/KernelVal.lean's `value`, what the reference leaves Proof/RefVal.lean's: the same formula of the
  arguments, Proof/Net.lean's `net`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_in_vocab
public import proofs.«01_k».proof.Proof.Gen.ReferenceIdeal.Run
public import proofs.«01_k».proof.Proof.Run
public import proofs.«01_k».proof.Proof.Kept
public import proofs.«01_k».proof.Proof.Ids
public import proofs.«01_k».proof.Proof.Same
public import proofs.«01_k».proof.Proof.KernelVal
public import proofs.«01_k».proof.Proof.RefVal
public import Idealize.ShloMosaic.Lib.Quiescent

@[expose] public section

noncomputable section

namespace Cert.Proof

open Idealize.ShloMosaic Idealize.ShloMosaic.TcCoe Idealize.SL Idealize.SL.Sem

/-- The kernel's program over any float values: where the ids are in range, its arguments end as they began and its
    semaphores at zero. -/
theorem runs {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ (d : Dev Cert.KernelIdeal.nD) i, ((m (d, Main.dv Cert.KernelIdeal.main_arg0) : Cert.KernelIdeal.S16384x3.Idx → BitVec 32) i).toNat < 1000) :
    θ_run (Cert.KernelIdeal.defs (F := F)) (Cert.KernelIdeal.threads (F := F)) ⟨m, fun _ => 0, ρ⟩ (Run.End m) :=
  Run.run_main m ρ fun d => HostVal.inRange m d (h d)

theorem frame_kernel : Cert.quiescent_Kernel := by
  intro m ρ h
  rw [Same.run_same]
  exact (θ_run Cert.KernelIdeal.defs _ _).mono (fun _ e => ⟨fun c => Kept.End_args m e c, e.2⟩)
    (runs (F := Bits) m ρ fun d => Ids.lt _ _ _ _ _ _ _ _ _ _ _ _ (h d))

theorem frame_kernelIdeal : Cert.quiescent_KernelIdeal := fun m ρ h =>
  (θ_run Cert.KernelIdeal.defs _ _).mono (fun _ e => ⟨fun c => Kept.End_args m e c, e.2⟩)
    (runs (F := Ideal) m ρ fun d => Ids.lt _ _ _ _ _ _ _ _ _ _ _ _ (h d))

theorem frame_reference : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

theorem frame_reference_pre : Cert.quiescent_ReferenceIdeal_pre_ids_in_vocab := fun m ρ _ => frame_reference m ρ trivial

/-- The result is one of the buffers a run's end is known at. -/
theorem out_mem : Main.dv Cert.KernelIdeal.main_v24 ∈ Pipeline.ucRefs Cert.KernelIdeal.τ Cert.KernelIdeal.sig := by decide

theorem algebraic : Cert.algebraic_KernelIdeal_ReferenceIdeal := by
  intro m ρ m' ρ' h hagree
  have hk : ∀ (d : Dev Cert.KernelIdeal.nD) i, ((m (d, Main.dv Cert.KernelIdeal.main_arg0) : Cert.KernelIdeal.S16384x3.Idx → BitVec 32) i).toNat < 1000 :=
    fun d => Ids.lt _ _ _ _ _ _ _ _ _ _ _ _ (h d)
  refine ⟨fun c => Main.V4 m c (Main.dv Cert.KernelIdeal.main_v24),
    (θ_run Cert.KernelIdeal.defs _ _).mono (fun _ e c => ⟨e.1 c _ out_mem, Kept.End_args m e c⟩) (runs (F := Ideal) m ρ hk),
    (θ_run Cert.ReferenceIdeal.defs _ _).mono (fun r e c => ⟨(e c).1.trans ?_, (e c).2⟩) (Cert.ReferenceIdeal.Value.run (F := Ideal) m' ρ')⟩
  obtain ⟨e0, e1, e2, e3, e4, e5, e6, e7, e8, e9, e10, e11⟩ := hagree c
  have hr := RefVal.value m' c (fun i => (congrArg BitVec.toNat (congrFun e0 i)).trans_lt (hk c i))
  rw [e0, e1, e2, e3, e4, e5, e6, e7, e8, e9, e10, e11] at hr
  exact hr.trans (KernelVal.value m c (hk c)).symm

theorem claim : Cert.Claim :=
  ⟨Cert.Kernel.Gen.facts, Cert.KernelIdeal.Gen.facts, Cert.ReferenceIdeal.Gen.facts, Cert.Pre_ids_in_vocab.Gen.facts,
    frame_kernel, frame_kernelIdeal, frame_reference, frame_reference_pre, trivial, algebraic⟩

end Cert.Proof

end
